-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v195) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S512x2 : Shape := ⟨2, ![512, 2]⟩
abbrev S65536x512 : Shape := ⟨2, ![65536, 512]⟩
abbrev S65536 : Shape := ⟨1, ![65536]⟩
abbrev S512x64 : Shape := ⟨2, ![512, 64]⟩
abbrev S512 : Shape := ⟨1, ![512]⟩
abbrev S64 : Shape := ⟨1, ![64]⟩
abbrev S512x1 : Shape := ⟨2, ![512, 1]⟩
abbrev S_ : Shape := ⟨0, ![]⟩
abbrev S512x128 : Shape := ⟨2, ![512, 128]⟩

class Facts : Prop where
  slices_S512x2_S512x1_0_1 : S512x2.Slices ![0, 1] S512x1
  shapeCasts_S512x1_S512 : S512x1.ShapeCasts S512
  bcast_S_S512 : S_.BroadcastsInDim S512 (![] : Fin 0 → Fin S512.rank)
  shapeCasts_S65536_S512x128 : S65536.ShapeCasts S512x128
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  slices_S512x2_S512x1_0_0 : S512x2.Slices ![0, 0] S512x1
  bcast_S_S65536x512 : S_.BroadcastsInDim S65536x512 (![] : Fin 0 → Fin S65536x512.rank)
  bcast_S_S512x64 : S_.BroadcastsInDim S512x64 (![] : Fin 0 → Fin S512x64.rank)

variable [Facts]

def fn_part1 {F : FTy → Type} [FloatOps F] (main_arg1 : FVec F S65536x512 .f32) (main_arg12 : FVec F S512x64 .f32) (main_v5 : IVec S512 32) (main_v9 : IVec S512x128 1) (main_v18 : IVec S512 1) (main_v19 : IVec S512 32) : IVec S512x128 1 × IVec S512 1 × IVec S512 1 × IVec S65536x512 1 × IVec S512x64 1 :=
  let main_v20 : IVec S512 1 := cmpi .sge main_v5 main_v19
  let main_c_3 : IVec S_ 32 := constantI S_ 32 128#32
  let main_v21 : IVec S512 32 := broadcastInDim S512 ![] bcast_S_S512 main_c_3
  let main_v22 : IVec S512 1 := cmpi .slt main_v5 main_v21
  let main_v23 : IVec S512 1 := andi main_v20 main_v22
  let main_v24 : FVec F S65536x512 .f32 := Host.absf main_arg1
  let main_cst : FVec F S_ .f32 := constant S_ .f32 0x7F800000#32
  let main_v25 : FVec F S65536x512 .f32 := broadcastInDim S65536x512 ![] bcast_S_S65536x512 main_cst
  let main_v26 : IVec S65536x512 1 := cmpf .olt main_v24 main_v25
  let main_v27 : FVec F S512x64 .f32 := Host.absf main_arg12
  let main_cst_4 : FVec F S_ .f32 := constant S_ .f32 0x7F800000#32
  let main_v28 : FVec F S512x64 .f32 := broadcastInDim S512x64 ![] bcast_S_S512x64 main_cst_4
  let main_v29 : IVec S512x64 1 := cmpf .olt main_v27 main_v28
  (main_v9, main_v18, main_v23, main_v26, main_v29)

def fn {F : FTy → Type} [FloatOps F] (main_arg0 : IVec S512x2 32) (main_arg1 : FVec F S65536x512 .f32) (main_arg2 : IVec S65536 32) (main_arg3 : IVec S512x64 1) (main_arg4 : IVec S512 32) (main_arg5 : FVec F S512 .f32) (main_arg6 : FVec F S512x64 .f32) (main_arg7 : FVec F S64 .f32) (main_arg8 : FVec F S512x64 .f32) (main_arg9 : FVec F S64 .f32) (main_arg10 : FVec F S512x64 .f32) (main_arg11 : FVec F S64 .f32) (main_arg12 : FVec F S512x64 .f32) (main_arg13 : FVec F S64 .f32) : IVec S512x128 1 × IVec S512 1 × IVec S512 1 × IVec S65536x512 1 × IVec S512x64 1 :=
  let main_v0 : IVec S512 32 := iotaInDim S512 32 0
  let main_v1 : IVec S512x1 32 := (extractStridedSlice S512x1 ![0, 1] · slices_S512x2_S512x1_0_1) main_arg0
  let main_v2 : IVec S512 32 := shapeCast S512 main_v1 shapeCasts_S512x1_S512
  let main_c : IVec S_ 32 := constantI S_ 32 128#32
  let main_v3 : IVec S512 32 := broadcastInDim S512 ![] bcast_S_S512 main_c
  let main_v4 : IVec S512 32 := muli main_v0 main_v3
  let main_v5 : IVec S512 32 := subi main_v2 main_v4
  let main_v6 : IVec S512x128 32 := shapeCast S512x128 main_arg2 shapeCasts_S65536_S512x128
  let main_v7 : IVec S512x1 32 := broadcastInDim S512x1 ![0] bcast_S512_S512x1_0 main_v0
  let main_v8 : IVec S512x128 32 := broadcastInDim S512x128 ![0, 1] bcast_S512x1_S512x128_0_1 main_v7
  let main_v9 : IVec S512x128 1 := cmpi .eq main_v6 main_v8
  let main_v10 : IVec S512x1 32 := (extractStridedSlice S512x1 ![0, 0] · slices_S512x2_S512x1_0_0) main_arg0
  let main_v11 : IVec S512 32 := shapeCast S512 main_v10 shapeCasts_S512x1_S512
  let main_c_0 : IVec S_ 32 := constantI S_ 32 0#32
  let main_v12 : IVec S512 32 := broadcastInDim S512 ![] bcast_S_S512 main_c_0
  let main_v13 : IVec S512 1 := cmpi .sge main_v11 main_v12
  let main_v14 : IVec S512x1 32 := (extractStridedSlice S512x1 ![0, 0] · slices_S512x2_S512x1_0_0) main_arg0
  let main_v15 : IVec S512 32 := shapeCast S512 main_v14 shapeCasts_S512x1_S512
  let main_c_1 : IVec S_ 32 := constantI S_ 32 64#32
  let main_v16 : IVec S512 32 := broadcastInDim S512 ![] bcast_S_S512 main_c_1
  let main_v17 : IVec S512 1 := cmpi .slt main_v15 main_v16
  let main_v18 : IVec S512 1 := andi main_v13 main_v17
  let main_c_2 : IVec S_ 32 := constantI S_ 32 0#32
  let main_v19 : IVec S512 32 := broadcastInDim S512 ![] bcast_S_S512 main_c_2
  fn_part1 (F := F) main_arg1 main_arg12 main_v5 main_v9 main_v18 main_v19
-- ==== Kernel.lean ====
abbrev S512x2 : Shape := ⟨2, ![512, 2]⟩
abbrev S65536x512 : Shape := ⟨2, ![65536, 512]⟩
abbrev S65536 : Shape := ⟨1, ![65536]⟩
abbrev S512x64 : Shape := ⟨2, ![512, 64]⟩
abbrev S512 : Shape := ⟨1, ![512]⟩
abbrev S64 : Shape := ⟨1, ![64]⟩
abbrev S512x1 : Shape := ⟨2, ![512, 1]⟩
abbrev S_ : Shape := ⟨0, ![]⟩
abbrev S1x64 : Shape := ⟨2, ![1, 64]⟩
abbrev S1x128 : Shape := ⟨2, ![1, 128]⟩
abbrev S512x128 : Shape := ⟨2, ![512, 128]⟩
abbrev S1x512 : Shape := ⟨2, ![1, 512]⟩
abbrev S64x512 : Shape := ⟨2, ![64, 512]⟩
abbrev S64x8x128 : Shape := ⟨3, ![64, 8, 128]⟩
abbrev S64x8x1 : Shape := ⟨3, ![64, 8, 1]⟩
abbrev S64x8 : Shape := ⟨2, ![64, 8]⟩
abbrev S1024x512 : Shape := ⟨2, ![1024, 512]⟩
abbrev S8x64 : Shape := ⟨2, ![8, 64]⟩
abbrev S8x128 : Shape := ⟨2, ![8, 128]⟩
abbrev S1x8x128 : Shape := ⟨3, ![1, 8, 128]⟩
abbrev S8x128x512 : Shape := ⟨3, ![8, 128, 512]⟩
abbrev S1024x64 : Shape := ⟨2, ![1024, 64]⟩
abbrev S8x128x64 : Shape := ⟨3, ![8, 128, 64]⟩
abbrev S8x512 : Shape := ⟨2, ![8, 512]⟩
abbrev S8 : Shape := ⟨1, ![8]⟩
abbrev S8x1 : Shape := ⟨2, ![8, 1]⟩
abbrev S1x1x512 : Shape := ⟨3, ![1, 1, 512]⟩
abbrev S8x1x512 : Shape := ⟨3, ![8, 1, 512]⟩
abbrev S8x1x64 : Shape := ⟨3, ![8, 1, 64]⟩
abbrev S8x128x1 : Shape := ⟨3, ![8, 128, 1]⟩
abbrev S8x63 : Shape := ⟨2, ![8, 63]⟩

abbrev nBuf : Space → Nat
  | .hbm => 55
  | .vmem => 23
  | .smem => 0
  | _ => 0

abbrev bufTy : (tb : Table) → Fin (tcTables nBuf tb) → BufTy
  | .hbm, ⟨0, _⟩ => ⟨S512x2, .i32⟩
  | .hbm, ⟨1, _⟩ => ⟨S65536x512, .f32⟩
  | .hbm, ⟨2, _⟩ => ⟨S65536, .i32⟩
  | .hbm, ⟨3, _⟩ => ⟨S512x64, .i1⟩
  | .hbm, ⟨4, _⟩ => ⟨S512, .i32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S512x64, .f32⟩
  | .hbm, ⟨9, _⟩ => ⟨S64, .f32⟩
  | .hbm, ⟨10, _⟩ => ⟨S512x64, .f32⟩
  | .hbm, ⟨11, _⟩ => ⟨S64, .f32⟩
  | .hbm, ⟨12, _⟩ => ⟨S512x64, .f32⟩
  | .hbm, ⟨13, _⟩ => ⟨S64, .f32⟩
  | .hbm, ⟨14, _⟩ => ⟨S512x1, .i32⟩
  | .hbm, ⟨15, _⟩ => ⟨S512, .i32⟩
  | .hbm, ⟨16, _⟩ => ⟨S512x1, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S1x64, .i32⟩
  | .hbm, ⟨25, _⟩ => ⟨S512x64, .i32⟩
  | .hbm, ⟨26, _⟩ => ⟨S512x64, .i32⟩
  | .hbm, ⟨27, _⟩ => ⟨S512x64, .i1⟩
  | .hbm, ⟨28, _⟩ => ⟨S512x64, .f32⟩
  | .hbm, ⟨29, _⟩ => ⟨S512x1, .i32⟩
  | .hbm, ⟨30, _⟩ => ⟨S1x128, .i32⟩
  | .hbm, ⟨31, _⟩ => ⟨S512x128, .i32⟩
  | .hbm, ⟨32, _⟩ => ⟨S512x128, .i32⟩
  | .hbm, ⟨33, _⟩ => ⟨S512x128, .i1⟩
  | .hbm, ⟨34, _⟩ => ⟨S512x128, .f32⟩
  | .hbm, ⟨35, _⟩ => ⟨S512x64, .f32⟩
  | .hbm, ⟨36, _⟩ => ⟨S1x512, .f32⟩
  | .hbm, ⟨37, _⟩ => ⟨S64x512, .f32⟩
  | .hbm, ⟨38, _⟩ => ⟨S64x512, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S64x8x128, .f32⟩
  | .hbm, ⟨44, _⟩ => ⟨S64x8x128, .f32⟩
  | .hbm, ⟨45, _⟩ => ⟨S64x8x128, .f32⟩
  | .hbm, ⟨46, _⟩ => ⟨S64x8x1, .f32⟩
  | .hbm, ⟨47, _⟩ => ⟨S64x8, .f32⟩
  | .hbm, ⟨48, _⟩ => ⟨S512, .f32⟩
  | .hbm, ⟨49, _⟩ => ⟨S64x8x1, .f32⟩
  | .hbm, ⟨50, _⟩ => ⟨S64x8, .f32⟩
  | .hbm, ⟨51, _⟩ => ⟨S512, .f32⟩
  | .hbm, ⟨52, _⟩ => ⟨S64x8x1, .f32⟩
  | .hbm, ⟨53, _⟩ => ⟨S64x8, .f32⟩
  | .hbm, ⟨54, _⟩ => ⟨S512, .f32⟩
  | .local _ .vmem, ⟨0, _⟩ => ⟨S1024x512, .f32⟩
  | .local _ .vmem, ⟨1, _⟩ => ⟨S1024x512, .f32⟩
  | .local _ .vmem, ⟨2, _⟩ => ⟨S512x64, .f32⟩
  | .local _ .vmem, ⟨3, _⟩ => ⟨S1x512, .f32⟩
  | .local _ .vmem, ⟨4, _⟩ => ⟨S64x512, .f32⟩
  | .local _ .vmem, ⟨5, _⟩ => ⟨S64x512, .f32⟩
  | .local _ .vmem, ⟨6, _⟩ => ⟨S512x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S8x64, .f32⟩
  | .local _ .vmem, ⟨12, _⟩ => ⟨S8x64, .f32⟩
  | .local _ .vmem, ⟨13, _⟩ => ⟨S8x128, .f32⟩
  | .local _ .vmem, ⟨14, _⟩ => ⟨S8x128, .f32⟩
  | .local _ .vmem, ⟨15, _⟩ => ⟨S8x64, .f32⟩
  | .local _ .vmem, ⟨16, _⟩ => ⟨S8x64, .f32⟩
  | .local _ .vmem, ⟨17, _⟩ => ⟨S1x8x128, .f32⟩
  | .local _ .vmem, ⟨18, _⟩ => ⟨S1x8x128, .f32⟩
  | .local _ .vmem, ⟨19, _⟩ => ⟨S1x8x128, .f32⟩
  | .local _ .vmem, ⟨20, _⟩ => ⟨S1x8x128, .f32⟩
  | .local _ .vmem, ⟨21, _⟩ => ⟨S1x8x128, .f32⟩
  | .local _ .vmem, ⟨22, _⟩ => ⟨S1x8x128, .f32⟩
  | _, _ => ⟨S512x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_v8 : Ref sig .tc := ⟨.hbm, 28, rfl⟩
abbrev main_call0_call1_v0 : Ref sig .tc := ⟨.hbm, 29, rfl⟩
abbrev main_call0_call1_v1 : Ref sig .tc := ⟨.hbm, 30, rfl⟩
abbrev main_call0_call1_v2 : Ref sig .tc := ⟨.hbm, 31, rfl⟩
abbrev main_call0_call1_v3 : Ref sig .tc := ⟨.hbm, 32, rfl⟩
abbrev main_call0_call1_v4 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18_0 : Ref sig .tc := ⟨.hbm, 43, rfl⟩
abbrev main_call0_v18_1 : Ref sig .tc := ⟨.hbm, 44, rfl⟩
abbrev main_call0_v18_2 : Ref sig .tc := ⟨.hbm, 45, rfl⟩
abbrev main_call0_v19 : Ref sig .tc := ⟨.hbm, 46, rfl⟩
abbrev main_call0_v20 : Ref sig .tc := ⟨.hbm, 47, rfl⟩
abbrev main_v0_0 : Ref sig .tc := ⟨.hbm, 48, rfl⟩
abbrev main_call0_v22 : Ref sig .tc := ⟨.hbm, 49, rfl⟩
abbrev main_call0_v23 : Ref sig .tc := ⟨.hbm, 50, rfl⟩
abbrev main_v0_1 : Ref sig .tc := ⟨.hbm, 51, rfl⟩
abbrev main_call0_v25 : Ref sig .tc := ⟨.hbm, 52, rfl⟩
abbrev main_call0_v26 : Ref sig .tc := ⟨.hbm, 53, rfl⟩
abbrev main_v0_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S512x2 : Shape := ⟨2, ![512, 2]⟩
abbrev S65536x512 : Shape := ⟨2, ![65536, 512]⟩
abbrev S65536 : Shape := ⟨1, ![65536]⟩
abbrev S512x64 : Shape := ⟨2, ![512, 64]⟩
abbrev S512 : Shape := ⟨1, ![512]⟩
abbrev S64 : Shape := ⟨1, ![64]⟩
abbrev S512x1 : Shape := ⟨2, ![512, 1]⟩
abbrev S65536x64 : Shape := ⟨2, ![65536, 64]⟩
abbrev S1x64 : Shape := ⟨2, ![1, 64]⟩
abbrev S_ : Shape := ⟨0, ![]⟩
abbrev S65536x1 : Shape := ⟨2, ![65536, 1]⟩
abbrev S512x63 : Shape := ⟨2, ![512, 63]⟩
abbrev S1x65536 : Shape := ⟨2, ![1, 65536]⟩
abbrev S512x65536 : Shape := ⟨2, ![512, 65536]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 315
  | .vmem => 0
  | .smem => 0
  | _ => 0

abbrev hbmTy0_0 (i : Nat) : BufTy := match i % 128 with
  | 0 => ⟨S512x2, .i32⟩
  | 1 => ⟨S65536x512, .f32⟩
  | 2 => ⟨S65536, .i32⟩
  | 3 => ⟨S512x64, .i1⟩
  | 4 => ⟨S512, .i32⟩
  | 5 => ⟨S512, .f32⟩
  | 6 => ⟨S512x64, .f32⟩
  | 7 => ⟨S64, .f32⟩
  | 8 => ⟨S512x64, .f32⟩
  | 9 => ⟨S64, .f32⟩
  | 10 => ⟨S512x64, .f32⟩
  | 11 => ⟨S64, .f32⟩
  | 12 => ⟨S512x64, .f32⟩
  | 13 => ⟨S64, .f32⟩
  | 14 => ⟨S512x1, .i32⟩
  | 15 => ⟨S512, .i32⟩
  | 16 => ⟨S512x1, .i32⟩
  | 17 => ⟨S512, .i32⟩
  | 18 => ⟨S65536, .f32⟩
  | 19 => ⟨S65536x64, .f32⟩
  | 20 => ⟨S1x64, .f32⟩
  | 21 => ⟨S65536x64, .f32⟩
  | 22 => ⟨S65536x64, .f32⟩
  | 23 => ⟨S65536x64, .f32⟩
  | 24 => ⟨S1x64, .f32⟩
  | 25 => ⟨S65536x64, .f32⟩
  | 26 => ⟨S65536x64, .f32⟩
  | 27 => ⟨S_, .i32⟩
  | 28 => ⟨S65536, .i32⟩
  | 29 => ⟨S65536, .i1⟩
  | 30 => ⟨S_, .i32⟩
  | 31 => ⟨S65536, .i32⟩
  | 32 => ⟨S65536, .i32⟩
  | 33 => ⟨S65536, .i32⟩
  | 34 => ⟨S65536x1, .i32⟩
  | 35 => ⟨S65536x64, .i1⟩
  | 36 => ⟨S512x63, .i1⟩
  | 37 => ⟨S_, .i1⟩
  | 38 => ⟨S512, .i1⟩
  | 39 => ⟨S1x65536, .i32⟩
  | 40 => ⟨S512, .i32⟩
  | 41 => ⟨S512x1, .i32⟩
  | 42 => ⟨S512x65536, .i32⟩
  | 43 => ⟨S512x65536, .i32⟩
  | 44 => ⟨S512x65536, .i1⟩
  | 45 => ⟨S1x65536, .f32⟩
  | 46 => ⟨S_, .f32⟩
  | 47 => ⟨S_, .f32⟩
  | 48 => ⟨S512x65536, .f32⟩
  | 49 => ⟨S512x65536, .f32⟩
  | 50 => ⟨S512x65536, .f32⟩
  | 51 => ⟨S_, .f32⟩
  | 52 => ⟨S512, .f32⟩
  | 53 => ⟨S_, .i32⟩
  | 54 => ⟨S65536, .i32⟩
  | 55 => ⟨S65536, .i1⟩
  | 56 => ⟨S_, .i32⟩
  | 57 => ⟨S65536, .i32⟩
  | 58 => ⟨S65536, .i32⟩
  | 59 => ⟨S65536, .i32⟩
  | 60 => ⟨S65536x1, .i32⟩
  | 61 => ⟨S65536, .f32⟩
  | 62 => ⟨S65536, .f32⟩
  | 63 => ⟨S65536, .f32⟩
  | 64 => ⟨S_, .f32⟩
  | 65 => ⟨S512, .f32⟩
  | 66 => ⟨S65536x1, .i32⟩
  | 67 => ⟨S512, .f32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S65536, .f32⟩
  | 77 => ⟨S_, .f32⟩
  | 78 => ⟨S65536, .f32⟩
  | 79 => ⟨S65536, .f32⟩
  | 80 => ⟨S65536, .f32⟩
  | 81 => ⟨S_, .f32⟩
  | 82 => ⟨S_, .f32⟩
  | 83 => ⟨S65536x64, .f32⟩
  | 84 => ⟨S65536x64, .f32⟩
  | 85 => ⟨S_, .f32⟩
  | 86 => ⟨S65536, .f32⟩
  | 87 => ⟨S_, .f32⟩
  | 88 => ⟨S65536, .f32⟩
  | 89 => ⟨S65536, .f32⟩
  | 90 => ⟨S65536x1, .f32⟩
  | 91 => ⟨S65536x64, .f32⟩
  | 92 => ⟨S65536x64, .f32⟩
  | 93 => ⟨S65536x64, .f32⟩
  | 94 => ⟨S_, .f32⟩
  | 95 => ⟨S65536, .f32⟩
  | 96 => ⟨S65536x1, .f32⟩
  | 97 => ⟨S65536x64, .f32⟩
  | 98 => ⟨S65536x64, .f32⟩
  | 99 => ⟨S65536x1, .f32⟩
  | 100 => ⟨S65536x64, .f32⟩
  | 101 => ⟨S65536x64, .f32⟩
  | 102 => ⟨S_, .f32⟩
  | 103 => ⟨S512x64, .f32⟩
  | 104 => ⟨S65536x1, .i32⟩
  | 105 => ⟨S512x64, .f32⟩
  | 106 => ⟨S_, .f32⟩
  | 107 => ⟨S_, .f32⟩
  | 108 => ⟨S512x64, .f32⟩
  | 109 => ⟨S512x64, .f32⟩
  | 110 => ⟨S_, .f32⟩
  | 111 => ⟨S512, .f32⟩
  | 112 => ⟨S512x1, .f32⟩
  | 113 => ⟨S_, .f32⟩
  | 114 => ⟨S512x1, .f32⟩
  | 115 => ⟨S512x1, .f32⟩
  | 116 => ⟨S512x64, .f32⟩
  | 117 => ⟨S512x64, .f32⟩
  | 118 => ⟨S_, .i32⟩
  | 119 => ⟨S65536, .i32⟩
  | 120 => ⟨S65536, .i1⟩
  | 121 => ⟨S_, .i32⟩
  | 122 => ⟨S65536, .i32⟩
  | 123 => ⟨S65536, .i32⟩
  | 124 => ⟨S65536, .i32⟩
  | 125 => ⟨S65536x1, .i32⟩
  | 126 => ⟨S65536, .i32⟩
  | 127 => ⟨S65536x1, .i32⟩
  | _ => ⟨S512x2, .i32⟩

abbrev hbmTy0_1 (i : Nat) : BufTy := match i % 128 with
  | 0 => ⟨S_, .i32⟩
  | 1 => ⟨S65536x1, .i32⟩
  | 2 => ⟨S65536x1, .i1⟩
  | 3 => ⟨S_, .i32⟩
  | 4 => ⟨S65536x1, .i32⟩
  | 5 => ⟨S65536x1, .i32⟩
  | 6 => ⟨S65536x1, .i32⟩
  | 7 => ⟨S65536x1x1, .i32⟩
  | 8 => ⟨S1, .i32⟩
  | 9 => ⟨S_, .i32⟩
  | 10 => ⟨S65536x1x1, .i32⟩
  | 11 => ⟨S65536x1x1, .i1⟩
  | 12 => ⟨S1x1x1, .i32⟩
  | 13 => ⟨S65536x1x1, .i32⟩
  | 14 => ⟨S65536x1x1, .i1⟩
  | 15 => ⟨S65536x1x1, .i1⟩
  | 16 => ⟨S_, .i1⟩
  | 17 => ⟨S65536x1, .i1⟩
  | 18 => ⟨S65536x1, .f32⟩
  | 19 => ⟨S_, .f32⟩
  | 20 => ⟨S65536x1, .f32⟩
  | 21 => ⟨S65536x1, .f32⟩
  | 22 => ⟨S65536, .f32⟩
  | 23 => ⟨S1x65536, .i32⟩
  | 24 => ⟨S512, .i32⟩
  | 25 => ⟨S512x1, .i32⟩
  | 26 => ⟨S512x65536, .i32⟩
  | 27 => ⟨S512x65536, .i32⟩
  | 28 => ⟨S512x65536, .i1⟩
  | 29 => ⟨S1x65536, .f32⟩
  | 30 => ⟨S_, .f32⟩
  | 31 => ⟨S_, .f32⟩
  | 32 => ⟨S512x65536, .f32⟩
  | 33 => ⟨S512x65536, .f32⟩
  | 34 => ⟨S512x65536, .f32⟩
  | 35 => ⟨S_, .f32⟩
  | 36 => ⟨S512, .f32⟩
  | 37 => ⟨S_, .i32⟩
  | 38 => ⟨S65536, .i32⟩
  | 39 => ⟨S65536, .i1⟩
  | 40 => ⟨S_, .i32⟩
  | 41 => ⟨S65536, .i32⟩
  | 42 => ⟨S65536, .i32⟩
  | 43 => ⟨S65536, .i32⟩
  | 44 => ⟨S65536x1, .i32⟩
  | 45 => ⟨S65536, .f32⟩
  | 46 => ⟨S65536, .f32⟩
  | 47 => ⟨S65536, .f32⟩
  | 48 => ⟨S_, .f32⟩
  | 49 => ⟨S512, .f32⟩
  | 50 => ⟨S65536x1, .i32⟩
  | 51 => ⟨S512, .f32⟩
  | 52 => ⟨S_, .i32⟩
  | 53 => ⟨S65536, .i32⟩
  | 54 => ⟨S65536, .i1⟩
  | 55 => ⟨S_, .i32⟩
  | 56 => ⟨S65536, .i32⟩
  | 57 => ⟨S65536, .i32⟩
  | 58 => ⟨S65536, .i32⟩
  | 59 => ⟨S65536x1, .i32⟩
  | 60 => ⟨S65536, .f32⟩
  | 61 => ⟨S_, .f32⟩
  | 62 => ⟨S65536, .f32⟩
  | 63 => ⟨S65536, .f32⟩
  | 64 => ⟨S65536, .f32⟩
  | 65 => ⟨S512, .i32⟩
  | 66 => ⟨S_, .i32⟩
  | 67 => ⟨S512, .i32⟩
  | 68 => ⟨S512, .i1⟩
  | 69 => ⟨S_, .i32⟩
  | 70 => ⟨S512, .i32⟩
  | 71 => ⟨S512, .i32⟩
  | 72 => ⟨S512, .i32⟩
  | 73 => ⟨S_, .i32⟩
  | 74 => ⟨S512, .i32⟩
  | 75 => ⟨S512, .i1⟩
  | 76 => ⟨S_, .i32⟩
  | 77 => ⟨S512, .i32⟩
  | 78 => ⟨S512, .i32⟩
  | 79 => ⟨S512, .i32⟩
  | 80 => ⟨S512x1, .i32⟩
  | 81 => ⟨S512x1, .i32⟩
  | 82 => ⟨S512x2, .i32⟩
  | 83 => ⟨S512, .f32⟩
  | 84 => ⟨S_, .f32⟩
  | 85 => ⟨S512, .f32⟩
  | 86 => ⟨S512, .f32⟩
  | 87 => ⟨S512, .f32⟩
  | 88 => ⟨S_, .i32⟩
  | 89 => ⟨S512, .i32⟩
  | 90 => ⟨S512, .i1⟩
  | 91 => ⟨S_, .i32⟩
  | 92 => ⟨S512, .i32⟩
  | 93 => ⟨S512, .i32⟩
  | 94 => ⟨S512, .i32⟩
  | 95 => ⟨S512x1, .i32⟩
  | 96 => ⟨S512, .f32⟩
  | 97 => ⟨S_, .f32⟩
  | 98 => ⟨S512, .f32⟩
  | 99 => ⟨S512, .f32⟩
  | 100 => ⟨S512, .f32⟩
  | 101 => ⟨S_, .i32⟩
  | 102 => ⟨S512, .i32⟩
  | 103 => ⟨S512, .i1⟩
  | 104 => ⟨S_, .f32⟩
  | 105 => ⟨S_, .f32⟩
  | 106 => ⟨S512, .f32⟩
  | 107 => ⟨S512, .f32⟩
  | 108 => ⟨S512, .f32⟩
  | 109 => ⟨S_, .f32⟩
  | 110 => ⟨S512x64, .f32⟩
  | 111 => ⟨S512x64, .f32⟩
  | 112 => ⟨S512x64, .f32⟩
  | 113 => ⟨S512x64, .f32⟩
  | 114 => ⟨S_, .f32⟩
  | 115 => ⟨S512, .f32⟩
  | 116 => ⟨S512, .f32⟩
  | 117 => ⟨S_, .f32⟩
  | 118 => ⟨S65536, .f32⟩
  | 119 => ⟨S65536, .f32⟩
  | 120 => ⟨S65536, .f32⟩
  | 121 => ⟨S65536, .f32⟩
  | 122 => ⟨S_, .f32⟩
  | 123 => ⟨S512, .f32⟩
  | 124 => ⟨S65536x1, .i32⟩
  | 125 => ⟨S512, .f32⟩
  | 126 => ⟨S512, .f32⟩
  | 127 => ⟨S512, .i1⟩
  | _ => ⟨S512x2, .i32⟩

abbrev hbmTy0_2 (i : Nat) : BufTy := match i % 128 with
  | 0 => ⟨S_, .f32⟩
  | 1 => ⟨S_, .f32⟩
  | 2 => ⟨S512, .f32⟩
  | 3 => ⟨S512, .f32⟩
  | 4 => ⟨S512, .f32⟩
  | 5 => ⟨S65536x64, .f32⟩
  | 6 => ⟨S1x64, .f32⟩
  | 7 => ⟨S65536x64, .f32⟩
  | 8 => ⟨S65536x64, .f32⟩
  | 9 => ⟨S65536x64, .f32⟩
  | 10 => ⟨S1x64, .f32⟩
  | 11 => ⟨S65536x64, .f32⟩
  | 12 => ⟨S65536x64, .f32⟩
  | 13 => ⟨S_, .i32⟩
  | 14 => ⟨S65536, .i32⟩
  | 15 => ⟨S65536, .i1⟩
  | 16 => ⟨S_, .i32⟩
  | 17 => ⟨S65536, .i32⟩
  | 18 => ⟨S65536, .i32⟩
  | 19 => ⟨S65536, .i32⟩
  | 20 => ⟨S65536x1, .i32⟩
  | 21 => ⟨S65536, .i32⟩
  | 22 => ⟨S65536x1, .i32⟩
  | 23 => ⟨S_, .i32⟩
  | 24 => ⟨S65536x1, .i32⟩
  | 25 => ⟨S65536x1, .i1⟩
  | 26 => ⟨S_, .i32⟩
  | 27 => ⟨S65536x1, .i32⟩
  | 28 => ⟨S65536x1, .i32⟩
  | 29 => ⟨S65536x1, .i32⟩
  | 30 => ⟨S65536x1x1, .i32⟩
  | 31 => ⟨S1, .i32⟩
  | 32 => ⟨S_, .i32⟩
  | 33 => ⟨S65536x1x1, .i32⟩
  | 34 => ⟨S65536x1x1, .i1⟩
  | 35 => ⟨S1x1x1, .i32⟩
  | 36 => ⟨S65536x1x1, .i32⟩
  | 37 => ⟨S65536x1x1, .i1⟩
  | 38 => ⟨S65536x1x1, .i1⟩
  | 39 => ⟨S_, .i1⟩
  | 40 => ⟨S65536x1, .i1⟩
  | 41 => ⟨S65536x1, .f32⟩
  | 42 => ⟨S_, .f32⟩
  | 43 => ⟨S65536x1, .f32⟩
  | 44 => ⟨S65536x1, .f32⟩
  | 45 => ⟨S65536, .f32⟩
  | 46 => ⟨S65536, .f32⟩
  | 47 => ⟨S_, .f32⟩
  | 48 => ⟨S512, .f32⟩
  | 49 => ⟨S65536x1, .i32⟩
  | 50 => ⟨S512, .f32⟩
  | 51 => ⟨S_, .f32⟩
  | 52 => ⟨S512x64, .f32⟩
  | 53 => ⟨S65536x1, .i32⟩
  | 54 => ⟨S512x64, .f32⟩
  | 55 => ⟨S512x64, .f32⟩
  | 56 => ⟨S_, .f32⟩
  | 57 => ⟨S512, .f32⟩
  | 58 => ⟨S512, .f32⟩
  | _ => ⟨S512x2, .i32⟩

abbrev hbmTy (i : Nat) : BufTy := match i / 128 with
  | 0 => hbmTy0_0 i
  | 1 => hbmTy0_1 i
  | 2 => hbmTy0_2 i
  | _ => ⟨S512x2, .i32⟩

abbrev bufTy : (tb : Table) → Fin (tcTables nBuf tb) → BufTy
  | .hbm, ⟨i, _⟩ => hbmTy i
  | _, _ => ⟨S512x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_c_3 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_call1_v0 : Ref sig .tc := ⟨.hbm, 82, rfl⟩
abbrev main_call1_v1 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_call2_v0 : Ref sig .tc := ⟨.hbm, 107, rfl⟩
abbrev main_call2_v1 : Ref sig .tc := ⟨.hbm, 108, rfl⟩
abbrev main_v71 : Ref sig .tc := ⟨.hbm, 109, rfl⟩
abbrev main_cst_15 : Ref sig .tc := ⟨.hbm, 110, rfl⟩
abbrev main_v72 : Ref sig .tc := ⟨.hbm, 111, rfl⟩
abbrev main_v73 : Ref sig .tc := ⟨.hbm, 112, rfl⟩
abbrev main_cst_16 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_17 : Ref sig .tc := ⟨.hbm, 118, rfl⟩
abbrev main_v78 : Ref sig .tc := ⟨.hbm, 119, rfl⟩
abbrev main_v79 : Ref sig .tc := ⟨.hbm, 120, rfl⟩
abbrev main_c_18 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_cst : Ref sig .tc := ⟨.hbm, 147, rfl⟩
abbrev main_call3_v14 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_19 : Ref sig .tc := ⟨.hbm, 158, rfl⟩
abbrev main_call4_v0 : Ref sig .tc := ⟨.hbm, 159, rfl⟩
abbrev main_call4_v1 : Ref sig .tc := ⟨.hbm, 160, rfl⟩
abbrev main_call4_v2 : Ref sig .tc := ⟨.hbm, 161, rfl⟩
abbrev main_v95 : Ref sig .tc := ⟨.hbm, 162, rfl⟩
abbrev main_cst_20 : Ref sig .tc := ⟨.hbm, 163, rfl⟩
abbrev main_v96 : Ref sig .tc := ⟨.hbm, 164, rfl⟩
abbrev main_c_21 : Ref sig .tc := ⟨.hbm, 165, rfl⟩
abbrev main_v97 : Ref sig .tc := ⟨.hbm, 166, rfl⟩
abbrev main_v98 : Ref sig .tc := ⟨.hbm, 167, rfl⟩
abbrev main_c_22 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_cst_23 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_c_24 : Ref sig .tc := ⟨.hbm, 180, rfl⟩
abbrev main_v109 : Ref sig .tc := ⟨.hbm, 181, rfl⟩
abbrev main_v110 : Ref sig .tc := ⟨.hbm, 182, rfl⟩
abbrev main_c_25 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_cst_26 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_c_27 : Ref sig .tc := ⟨.hbm, 194, rfl⟩
abbrev main_v120 : Ref sig .tc := ⟨.hbm, 195, rfl⟩
abbrev main_v121 : Ref sig .tc := ⟨.hbm, 196, rfl⟩
abbrev main_c_28 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_c_29 : Ref sig .tc := ⟨.hbm, 201, rfl⟩
abbrev main_v125 : Ref sig .tc := ⟨.hbm, 202, rfl⟩
abbrev main_v126 : Ref sig .tc := ⟨.hbm, 203, rfl⟩
abbrev main_c_30 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_cst_31 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_c_32 : Ref sig .tc := ⟨.hbm, 216, rfl⟩
abbrev main_v137 : Ref sig .tc := ⟨.hbm, 217, rfl⟩
abbrev main_v138 : Ref sig .tc := ⟨.hbm, 218, rfl⟩
abbrev main_c_33 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_cst_34 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_c_35 : Ref sig .tc := ⟨.hbm, 229, rfl⟩
abbrev main_v147 : Ref sig .tc := ⟨.hbm, 230, rfl⟩
abbrev main_v148 : Ref sig .tc := ⟨.hbm, 231, rfl⟩
abbrev main_cst_36 : Ref sig .tc := ⟨.hbm, 232, rfl⟩
abbrev main_call5_v0 : Ref sig .tc := ⟨.hbm, 233, rfl⟩
abbrev main_call5_v1 : Ref sig .tc := ⟨.hbm, 234, rfl⟩
abbrev main_v149 : Ref sig .tc := ⟨.hbm, 235, rfl⟩
abbrev main_v150 : Ref sig .tc := ⟨.hbm, 236, rfl⟩
abbrev main_cst_37 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_cst_38 : Ref sig .tc := ⟨.hbm, 242, rfl⟩
abbrev main_v155 : Ref sig .tc := ⟨.hbm, 243, rfl⟩
abbrev main_v156 : Ref sig .tc := ⟨.hbm, 244, rfl⟩
abbrev main_cst_39 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_cst_40 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_41 : Ref sig .tc := ⟨.hbm, 256, rfl⟩
abbrev main_call6_v0 : Ref sig .tc := ⟨.hbm, 257, rfl⟩
abbrev main_call6_v1 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_c_42 : Ref sig .tc := ⟨.hbm, 269, rfl⟩
abbrev main_v176 : Ref sig .tc := ⟨.hbm, 270, rfl⟩
abbrev main_v177 : Ref sig .tc := ⟨.hbm, 271, rfl⟩
abbrev main_c_43 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_call7_c : Ref sig .tc := ⟨.hbm, 279, rfl⟩
abbrev main_call7_v0 : Ref sig .tc := ⟨.hbm, 280, rfl⟩
abbrev main_call7_v1 : Ref sig .tc := ⟨.hbm, 281, rfl⟩
abbrev main_call7_c_0 : Ref sig .tc := ⟨.hbm, 282, rfl⟩
abbrev main_call7_v2 : Ref sig .tc := ⟨.hbm, 283, rfl⟩
abbrev main_call7_v3 : Ref sig .tc := ⟨.hbm, 284, rfl⟩
abbrev main_call7_v4 : Ref sig .tc := ⟨.hbm, 285, rfl⟩
abbrev main_call7_v5 : Ref sig .tc := ⟨.hbm, 286, rfl⟩
abbrev main_call7_c_1 : Ref sig .tc := ⟨.hbm, 287, rfl⟩
abbrev main_call7_c_2 : Ref sig .tc := ⟨.hbm, 288, rfl⟩
abbrev main_call7_v6 : Ref sig .tc := ⟨.hbm, 289, rfl⟩
abbrev main_call7_v7 : Ref sig .tc := ⟨.hbm, 290, rfl⟩
abbrev main_call7_v8 : Ref sig .tc := ⟨.hbm, 291, rfl⟩
abbrev main_call7_v9 : Ref sig .tc := ⟨.hbm, 292, rfl⟩
abbrev main_call7_v10 : Ref sig .tc := ⟨.hbm, 293, rfl⟩
abbrev main_call7_v11 : Ref sig .tc := ⟨.hbm, 294, rfl⟩
abbrev main_call7_c_3 : Ref sig .tc := ⟨.hbm, 295, rfl⟩
abbrev main_call7_v12 : Ref sig .tc := ⟨.hbm, 296, rfl⟩
abbrev main_call7_v13 : Ref sig .tc := ⟨.hbm, 297, rfl⟩
abbrev main_call7_cst : Ref sig .tc := ⟨.hbm, 298, rfl⟩
abbrev main_call7_v14 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_cst_44 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_cst_45 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_cst_46 : Ref sig .tc := ⟨.hbm, 312, rfl⟩
abbrev main_v194 : Ref sig .tc := ⟨.hbm, 313, rfl⟩
abbrev main_v195 : Ref sig .tc := ⟨.hbm, 314, rfl⟩

abbrev nD : Nat := 1
abbrev τ : Topo := Topo.v7x

variable {F : FTy → Type} [FloatOps F]
-- ==== Proof.Head.lean ====
/-
  The mathematics of the policy head for ONE graph, on extended reals: 128 nodes, 64 actions, 512 features. Both programs
  are shown to return these numbers, graph by graph.
-/
module

public import Idealize.ShloMosaic.PureOps.Ideal
public import Idealize.ShloMosaic.PureOps.Ideal.Laws

@[expose] public section

noncomputable section

namespace Cert.Head

open Idealize.ShloMosaic

/-- The small number that the head adds before a division or a logarithm (1e-12 as a 32-bit float). -/
def eps : EReal := Ideal.ofBits .f32 0x2B8CBCCC#32
/-- The logit of a masked action (-1e9). -/
def low : EReal := Ideal.ofBits .f32 0xCE6E6B28#32
/-- Minus infinity, where a maximum starts. -/
def ninf : EReal := Ideal.ofBits .f32 0xFF800000#32

/-- The greatest of the numbers `f`. -/
def top {n : ℕ} (f : Fin n → EReal) : EReal := Finset.univ.fold max ninf f

/-- `f` less its maximum, under the exponential. -/
def ex {n : ℕ} (f : Fin n → EReal) (j : Fin n) : EReal := Ideal.exp (f j - top f)

/-- The softmax over the nodes of a graph, its divisor moved off zero by `eps`. -/
def softNode {n : ℕ} (f : Fin n → EReal) (j : Fin n) : EReal := Ideal.div (ex f j) ((∑ k, ex f k) + eps)

/-- The softmax over the actions. -/
def softAct {n : ℕ} (f : Fin n → EReal) (c : Fin n) : EReal := Ideal.div (ex f c) (∑ k, ex f k)

/-- A linear head: features `x`, weights `w`, bias `b`. -/
def lin (x w : Fin 512 → EReal) (b : EReal) : EReal := (∑ d, x d * w d) + b

/-- The action's logit where the mask admits it, `low` where not. -/
def masked (mask : Fin 64 → BitVec 1) (f : Fin 64 → EReal) (c : Fin 64) : EReal := if mask c = 1#1 then f c else low

/-- The probability of action `c`, before it is normalized: over the nodes, the node's probability times the action's
    given the node; zero for a masked action. -/
def actRaw (mask : Fin 64 → BitVec 1) (nl : Fin 128 → EReal) (agn : Fin 128 → Fin 64 → EReal) (c : Fin 64) : EReal :=
  if mask c = 1#1 then ∑ j, softNode nl j * softAct (masked mask (agn j)) c else 0

/-- The probability of action `c`. -/
def act (mask : Fin 64 → BitVec 1) (nl : Fin 128 → EReal) (agn : Fin 128 → Fin 64 → EReal) (c : Fin 64) : EReal :=
  Ideal.div (actRaw mask nl agn c) ((∑ k, actRaw mask nl agn k) + eps)

/-- The log-probability of the pair of action `a0` and node `a1`; the node counts only where the action is not the first. -/
def logprob (pa : Fin 64 → EReal) (pn : Fin 128 → EReal) (a0 : Fin 64) (a1 : Fin 128) : EReal :=
  Ideal.log (pa a0 + eps) + if 0 < a0.val then Ideal.log (pn a1 + eps) else 0

/-- Minus the expected logarithm. -/
def ent {n : ℕ} (p : Fin n → EReal) : EReal := -∑ c, p c * Ideal.log (p c + eps)

/-- Some action but the first is admitted. -/
def NodesMatter (mask : Fin 64 → BitVec 1) : Prop := ∃ c : Fin 63, mask ⟨1 + c.val, by omega⟩ = 1#1

open Classical in
/-- The entropy of the choice of action, and of node where that counts. -/
def entropy (mask : Fin 64 → BitVec 1) (pa : Fin 64 → EReal) (pn : Fin 128 → EReal) (a0 : Fin 64) : EReal :=
  ent pa + if NodesMatter mask ∧ 0 < a0.val then ent pn else 0

/-- The value estimate: `qs j` the node's value given the chosen action, `qa j c` the action's given the node. -/
def value (qs : Fin 128 → EReal) (qa : Fin 128 → Fin 64 → EReal) (pa : Fin 64 → EReal) (pn : Fin 128 → EReal) : EReal :=
  (∑ j, qs j * pn j) + ∑ c, (∑ j, qa j c) * pa c

end Cert.Head

end
-- ==== Proof.Arguments.lean ====
/-
  The arguments of the two programs as arrays, what is asked of them, and the three results graph by graph: the numbers
  of `Head` at the rows of graph `b`.
-/
module

public import proofs.«01_k».proof.Proof.Head
public import Idealize.ShloMosaic.Lib.Pointwise

@[expose] public section

noncomputable section

namespace Cert.Head

open Idealize.ShloMosaic

/-- The arguments, but `n_nodes`, which neither program reads. -/
structure Args where
  a : IVec ⟨2, ![512, 2]⟩ 32
  h : FVec Ideal ⟨2, ![65536, 512]⟩ .f32
  seg : IVec ⟨1, ![65536]⟩ 32
  mask : IVec ⟨2, ![512, 64]⟩ 1
  w : FVec Ideal ⟨1, ![512]⟩ .f32
  Wagn : FVec Ideal ⟨2, ![512, 64]⟩ .f32
  bagn : FVec Ideal ⟨1, ![64]⟩ .f32
  Wnga : FVec Ideal ⟨2, ![512, 64]⟩ .f32
  bnga : FVec Ideal ⟨1, ![64]⟩ .f32
  Wqna : FVec Ideal ⟨2, ![512, 64]⟩ .f32
  bqna : FVec Ideal ⟨1, ![64]⟩ .f32
  Wqan : FVec Ideal ⟨2, ![512, 64]⟩ .f32
  bqan : FVec Ideal ⟨1, ![64]⟩ .f32

/-- Node `j` of graph `b`. -/
def node (b : Fin 512) (j : Fin 128) : Fin 65536 := ⟨b.val * 128 + j.val, by omega⟩

namespace Args

/-- What is asked of the arguments: node `j` of graph `b` is marked with `b`; graph `b` chooses the action `a0 b` and its
    node `a1 b`; the features and the weights of the action values are finite. -/
structure Ok (A : Args) (a0 : Fin 512 → Fin 64) (a1 : Fin 512 → Fin 128) : Prop where
  seg : ∀ b j, A.seg (ix1 (node b j)) = BitVec.ofNat 32 b.val
  act : ∀ b, A.a (ix2 b 0) = BitVec.ofNat 32 (a0 b).val
  node : ∀ b, A.a (ix2 b 1) = BitVec.ofNat 32 (Head.node b (a1 b)).val
  h : ∀ n d, ∃ r : ℝ, A.h (ix2 n d) = (r : EReal)
  Wqan : ∀ d c, ∃ r : ℝ, A.Wqan (ix2 d c) = (r : EReal)

variable (A : Args) (b : Fin 512)

/-- The features of node `n`. -/
def x (n : Fin 65536) (d : Fin 512) : EReal := A.h (ix2 n d)
/-- The admitted actions. -/
def may (c : Fin 64) : BitVec 1 := A.mask (ix2 b c)
/-- The logits of the nodes. -/
def nl (n : Fin 65536) : EReal := ∑ d, A.x n d * A.w (ix1 d)
/-- The logits of the actions given the node. -/
def agn (n : Fin 65536) (c : Fin 64) : EReal := lin (A.x n) (fun d => A.Wagn (ix2 d c)) (A.bagn (ix1 c))
/-- The logits of the nodes given the action. -/
def nga (c : Fin 64) (n : Fin 65536) : EReal := lin (A.x n) (fun d => A.Wnga (ix2 d c)) (A.bnga (ix1 c))
/-- The values of the nodes given the action. -/
def qna (c : Fin 64) (n : Fin 65536) : EReal := lin (A.x n) (fun d => A.Wqna (ix2 d c)) (A.bqna (ix1 c))
/-- The values of the actions given the node. -/
def qan (n : Fin 65536) (c : Fin 64) : EReal := lin (A.x n) (fun d => A.Wqan (ix2 d c)) (A.bqan (ix1 c))

/-- The probabilities of the actions of graph `b`. -/
def pa : Fin 64 → EReal := act (A.may b) (fun j => A.nl (node b j)) fun j => A.agn (node b j)
/-- The probabilities of its nodes given the action `c`. -/
def pn (c : Fin 64) : Fin 128 → EReal := softNode fun j => A.nga c (node b j)

/-- The three results. -/
def logprob (a0 : Fin 512 → Fin 64) (a1 : Fin 512 → Fin 128) : EReal :=
  Head.logprob (A.pa b) (A.pn b (a0 b)) (a0 b) (a1 b)
def entropy (a0 : Fin 512 → Fin 64) : EReal := Head.entropy (A.may b) (A.pa b) (A.pn b (a0 b)) (a0 b)
def value (a0 : Fin 512 → Fin 64) : EReal :=
  Head.value (fun j => A.qna (a0 b) (node b j)) (fun j => A.qan (node b j)) (A.pa b) (A.pn b (a0 b))

end Args

end Cert.Head

end
-- ==== Proof.Numbers.lean ====
/-
  Facts about extended reals that both sides of the proof use: what the constants denote, indicator sums, and the one
  law that needs finite numbers, that summing rows before a product with a matrix is summing the products after it.
-/
module

public import proofs.«01_k».proof.Proof.Head

@[expose] public section

noncomputable section

namespace Cert.Numbers

open Idealize.ShloMosaic Cert.Head

theorem half_eq : Ideal.ofBits .f32 0x3F000000#32 = (((1 : ℝ) / 2 : ℝ) : EReal) := by
  simp [Ideal.ofBits, Ideal.ieee, -EReal.coe_mul]; norm_num

theorem c128_eq : Ideal.ofBits .f32 0x43000000#32 = (((128 : ℝ) : ℝ) : EReal) := by
  simp [Ideal.ofBits, Ideal.ieee, -EReal.coe_mul]; norm_num

theorem ninf_eq : ninf = ⊥ := by
  simp [ninf, Ideal.ofBits, Ideal.ieee]

theorem one_eq : (1 : EReal) = ((1 : ℝ) : EReal) := rfl

theorem half_lt_one : Ideal.ofBits .f32 0x3F000000#32 < (1 : EReal) := by
  rw [half_eq, one_eq, EReal.coe_lt_coe_iff]; norm_num

theorem not_half_lt_zero : ¬ Ideal.ofBits .f32 0x3F000000#32 < (0 : EReal) := by
  rw [half_eq, ← EReal.coe_zero, EReal.coe_lt_coe_iff]; norm_num

/-- An indicator passes one half where its condition holds. -/
theorem half_lt_ind (p : Prop) [Decidable p] : Ideal.ofBits .f32 0x3F000000#32 < (if p then (1 : EReal) else 0) ↔ p := by
  by_cases h : p
  · simp only [if_pos h, h, iff_true]; exact half_lt_one
  · simp only [if_neg h, h, iff_false]; exact not_half_lt_zero

/-- The sum of indicators passes one half where one of the conditions holds. -/
theorem half_lt_sum_ind {n : ℕ} (p : Fin n → Prop) [DecidablePred p] :
    Ideal.ofBits .f32 0x3F000000#32 < (∑ c, if p c then (1 : EReal) else 0) ↔ ∃ c, p c := by
  constructor
  · intro h
    by_contra hn
    have h0 : (∑ c, if p c then (1 : EReal) else 0) = 0 :=
      Finset.sum_eq_zero fun c _ => if_neg fun hc => hn ⟨c, hc⟩
    rw [h0] at h
    exact not_half_lt_zero h
  · rintro ⟨c, hc⟩
    have h1 := Finset.single_le_sum (f := fun c => if p c then (1 : EReal) else 0) (s := Finset.univ) (fun i _ => by
      split
      · exact zero_le_one
      · exact le_refl _) (Finset.mem_univ c)
    rw [if_pos hc] at h1
    exact lt_of_lt_of_le half_lt_one h1

theorem sum_ind_mul {n : ℕ} (a : Fin n) (f : Fin n → EReal) : (∑ c, (if c = a then (1 : EReal) else 0) * f c) = f a := by
  simp only [ite_mul, one_mul, zero_mul, Finset.sum_ite_eq', Finset.mem_univ, if_true]

theorem sum_mul_ind {n : ℕ} (a : Fin n) (f : Fin n → EReal) : (∑ c, f c * (if c = a then (1 : EReal) else 0)) = f a := by
  simp only [mul_ite, mul_one, mul_zero, Finset.sum_ite_eq', Finset.mem_univ, if_true]

theorem one_sub_ind (p : Prop) [Decidable p] : (1 : EReal) - (if p then (1 : EReal) else 0) = if p then 0 else 1 := by
  by_cases h : p
  · simp only [if_pos h]; rw [one_eq, ← EReal.coe_sub, sub_self, EReal.coe_zero]
  · simp only [if_neg h, sub_zero]

/-- A number whose absolute value is below infinity is a real. -/
theorem real_of_abs_lt {x : EReal} (h : max x (-x) < ⊤) : ∃ r : ℝ, x = (r : EReal) := by
  induction x using EReal.rec with
  | bot => simp at h
  | coe r => exact ⟨r, rfl⟩
  | top => simp at h

theorem coe_sum {n : ℕ} (f : Fin n → ℝ) : ((∑ i, f i : ℝ) : EReal) = ∑ i, (f i : EReal) := by
  induction (Finset.univ : Finset (Fin n)) using Finset.cons_induction with
  | empty => simp
  | cons a s ha ih => rw [Finset.sum_cons, Finset.sum_cons, EReal.coe_add, ih]

/-- The sum over the nodes of a linear head is the head of the sum of their features, with the bias once per node:
    for finite features and weights, and any bias. -/
theorem sum_lin {N : ℕ} (x : Fin N → Fin 512 → EReal) (w : Fin 512 → EReal) (b : EReal)
    (hx : ∀ j d, ∃ r : ℝ, x j d = (r : EReal)) (hw : ∀ d, ∃ r : ℝ, w d = (r : EReal)) :
    (∑ j, lin (x j) w b) = (∑ d, (∑ j, x j d) * w d) + (((N : ℝ) : ℝ) : EReal) * b := by
  choose x' hx using hx
  choose w' hw using hw
  have hb : (∑ _j : Fin N, b) = (((N : ℝ) : ℝ) : EReal) * b := by
    rw [Finset.sum_const, Finset.card_univ, Fintype.card_fin, EReal.nsmul_eq_mul]; rfl
  simp only [lin]
  rw [Finset.sum_add_distrib, hb]
  congr 1
  simp only [hx, hw, ← EReal.coe_mul, ← coe_sum]
  rw [Finset.sum_comm]
  simp only [Finset.sum_mul]

end Cert.Numbers

end
-- ==== Proof.Precondition.lean ====
/-
  The precondition of the value claim, read off its printed form: it gives what `Args.Ok` asks.
-/
module

public import proofs.«01_k».proof.Pre_as_drawn
public import proofs.«01_k».proof.Proof.Arguments
public import proofs.«01_k».proof.Proof.Numbers
public import Idealize.ShloMosaic.Lib.ReduceAll
public import Idealize.ShloMosaic.Lib.Pointwise

@[expose] public section

noncomputable section

namespace Cert.Precondition

open Idealize.ShloMosaic Cert.Pre_as_drawn Cert.Head

/-- The shapes of the predicate's operations agree. -/
instance facts : Cert.Pre_as_drawn.Facts where
  slices_S512x2_S512x1_0_1 := by decide
  shapeCasts_S512x1_S512 := by decide
  bcast_S_S512 := by decide
  shapeCasts_S65536_S512x128 := by decide
  bcast_S512_S512x1_0 := by decide
  bcast_S512x1_S512x128_0_1 := by decide
  slices_S512x2_S512x1_0_0 := by decide
  bcast_S_S65536x512 := by decide
  bcast_S_S512x64 := by decide

/-- A word between zero and `n`, as the signed comparisons say it. -/
theorem small (x : BitVec 32) (n : ℕ) (hn : n < 2 ^ 31)
    (h : IntOp.andi (IntOp.cmpi .sge x 0#32) (IntOp.cmpi .slt x (BitVec.ofNat 32 n)) = 1#1) : x.toNat < n := by
  obtain ⟨h0, h1⟩ := IntOp.andi_eq_one.1 h
  have e0 : 0 ≤ x.toInt := by
    have : (0#32).sle x = true := by
      by_contra c
      simp [IntOp.cmpi, Bool.eq_false_iff.2 c] at h0
    simpa [BitVec.sle] using this
  have e1 : x.toInt < (BitVec.ofNat 32 n).toInt := by
    have : x.slt (BitVec.ofNat 32 n) = true := by
      by_contra c
      simp [IntOp.cmpi, Bool.eq_false_iff.2 c] at h1
    simpa [BitVec.slt] using this
  rw [BitVec.toInt_eq_toNat_cond] at e0 e1
  rw [BitVec.toInt_eq_toNat_cond, BitVec.toNat_ofNat, Nat.mod_eq_of_lt (by omega : n < 2 ^ 32)] at e1
  have := x.isLt
  split at e0 <;> split at e1 <;> omega

theorem word_eq (x y : BitVec 32) (h : IntOp.cmpi .eq x y = 1#1) : x = y := by
  by_contra c
  have : (x == y) = false := by simpa using c
  simp [IntOp.cmpi, this] at h

variable (A : Args)

/-! ### The five statements, each at one place -/

theorem marks (h : cmpi .eq (shapeCast S512x128 A.seg facts.shapeCasts_S65536_S512x128)
      (broadcastInDim S512x128 ![0, 1] facts.bcast_S512x1_S512x128_0_1
        (broadcastInDim S512x1 ![0] facts.bcast_S512_S512x1_0 (iotaInDim S512 32 0))) = fun _ => 1#1)
    (b : Fin 512) (j : Fin 128) : A.seg (ix1 (node b j)) = BitVec.ofNat 32 b.val := by
  have e := word_eq _ _ (congrFun h (ix2 b j))
  refine Eq.trans ?_ (e.trans ?_)
  · pointwise
    rfl
  · pointwise

theorem actions (h : andi
      (cmpi .sge (shapeCast S512 (extractStridedSlice S512x1 ![0, 0] A.a facts.slices_S512x2_S512x1_0_0) facts.shapeCasts_S512x1_S512)
        (broadcastInDim S512 ![] facts.bcast_S_S512 (constantI S_ 32 0#32)))
      (cmpi .slt (shapeCast S512 (extractStridedSlice S512x1 ![0, 0] A.a facts.slices_S512x2_S512x1_0_0) facts.shapeCasts_S512x1_S512)
        (broadcastInDim S512 ![] facts.bcast_S_S512 (constantI S_ 32 64#32))) = fun _ => 1#1)
    (b : Fin 512) : (A.a (ix2 b 0)).toNat < 64 := by
  refine small _ 64 (by decide) (Eq.trans ?_ (congrFun h (ix1 b)))
  pointwise

theorem nodes (h : andi
      (cmpi .sge (subi (shapeCast S512 (extractStridedSlice S512x1 ![0, 1] A.a facts.slices_S512x2_S512x1_0_1) facts.shapeCasts_S512x1_S512)
          (muli (iotaInDim S512 32 0) (broadcastInDim S512 ![] facts.bcast_S_S512 (constantI S_ 32 128#32))))
        (broadcastInDim S512 ![] facts.bcast_S_S512 (constantI S_ 32 0#32)))
      (cmpi .slt (subi (shapeCast S512 (extractStridedSlice S512x1 ![0, 1] A.a facts.slices_S512x2_S512x1_0_1) facts.shapeCasts_S512x1_S512)
          (muli (iotaInDim S512 32 0) (broadcastInDim S512 ![] facts.bcast_S_S512 (constantI S_ 32 128#32))))
        (broadcastInDim S512 ![] facts.bcast_S_S512 (constantI S_ 32 128#32))) = fun _ => 1#1)
    (b : Fin 512) : (A.a (ix2 b 1) - BitVec.ofNat 32 b.val * 128#32).toNat < 128 := by
  refine small _ 128 (by decide) (Eq.trans ?_ (congrFun h (ix1 b)))
  pointwise
  rfl

/-- A number below the infinity in magnitude is real. -/
theorem finite (x : EReal) (h : Ideal.cmp .olt (max x (-x)) (Ideal.ofBits .f32 0x7F800000#32) = 1#1) : ∃ r : ℝ, x = (r : EReal) := by
  refine Numbers.real_of_abs_lt ?_
  have t : Ideal.ofBits .f32 0x7F800000#32 = ⊤ := by simp [Ideal.ofBits, Ideal.ieee]
  rw [t] at h
  by_contra c
  simp [Ideal.cmp, c] at h

theorem features (h : cmpf .olt (Host.absf A.h) (broadcastInDim S65536x512 ![] facts.bcast_S_S65536x512
      (constant (F := Ideal) S_ .f32 0x7F800000#32)) = fun _ => 1#1) (n : Fin 65536) (d : Fin 512) : ∃ r : ℝ, A.h (ix2 n d) = (r : EReal) := by
  refine finite _ (Eq.trans ?_ (congrFun h (ix2 n d)))
  pointwise
  rfl

theorem weights (h : cmpf .olt (Host.absf A.Wqan) (broadcastInDim S512x64 ![] facts.bcast_S_S512x64
      (constant (F := Ideal) S_ .f32 0x7F800000#32)) = fun _ => 1#1) (d : Fin 512) (c : Fin 64) : ∃ r : ℝ, A.Wqan (ix2 d c) = (r : EReal) := by
  refine finite _ (Eq.trans ?_ (congrFun h (ix2 d c)))
  pointwise
  rfl

/-! ### Together -/

theorem of_actions (x : BitVec 32) (b : Fin 512) (h : (x - BitVec.ofNat 32 b.val * 128#32).toNat < 128) :
    x = BitVec.ofNat 32 (node b ⟨(x - BitVec.ofNat 32 b.val * 128#32).toNat, h⟩).val := by
  generalize e : x - BitVec.ofNat 32 b.val * 128#32 = y at h
  have hx : x = y + BitVec.ofNat 32 b.val * 128#32 := by rw [← e, BitVec.sub_add_cancel]
  subst hx
  apply BitVec.eq_of_toNat_eq
  simp only [node, BitVec.toNat_add, BitVec.toNat_mul, BitVec.toNat_ofNat]
  omega

theorem ok (x4 : IVec S512 32)
    (h : (fn (F := Ideal) A.a A.h A.seg A.mask x4 A.w A.Wagn A.bagn A.Wnga A.bnga A.Wqna A.bqna A.Wqan A.bqan).1 = (fun _ => 1#1)
      ∧ (fn (F := Ideal) A.a A.h A.seg A.mask x4 A.w A.Wagn A.bagn A.Wnga A.bnga A.Wqna A.bqna A.Wqan A.bqan).2.1 = (fun _ => 1#1)
      ∧ (fn (F := Ideal) A.a A.h A.seg A.mask x4 A.w A.Wagn A.bagn A.Wnga A.bnga A.Wqna A.bqna A.Wqan A.bqan).2.2.1 = (fun _ => 1#1)
      ∧ (fn (F := Ideal) A.a A.h A.seg A.mask x4 A.w A.Wagn A.bagn A.Wnga A.bnga A.Wqna A.bqna A.Wqan A.bqan).2.2.2.1 = (fun _ => 1#1)
      ∧ (fn (F := Ideal) A.a A.h A.seg A.mask x4 A.w A.Wagn A.bagn A.Wnga A.bnga A.Wqna A.bqna A.Wqan A.bqan).2.2.2.2 = (fun _ => 1#1)) :
    ∃ a0 a1, A.Ok a0 a1 := by
  obtain ⟨h0, h1, h2, h3, h4⟩ := h
  have n0 := actions A h1
  have n1 := nodes A h2
  refine ⟨fun b => ⟨_, n0 b⟩, fun b => ⟨_, n1 b⟩, marks A h0, fun b => ?_, fun b => of_actions _ b (n1 b), features A h3, weights A h4⟩
  exact (BitVec.setWidth_eq _).symm.trans (BitVec.ofNat_toNat _ _).symm

end Cert.Precondition

end
-- ==== Proof.Blocks.lean ====
/-
  What the kernel's input windows hold at grid point `t`, in terms of the arguments.
-/
module

public import proofs.«01_k».proof.Proof.Arguments
public import proofs.«01_k».proof.Proof.Numbers
public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Blocks

open Idealize.ShloMosaic Idealize.ShloMosaic.TcCoe Idealize.SL.Sem
open Cert.KernelIdeal Cert.KernelIdeal.Gen Cert.Head Cert.Numbers

variable (m : (ℓ : Loc nD τ sig) → Buf (Elt Ideal) ℓ) (c : Dev nD) (t : Fin cfg0.N)

/-- The arguments the kernel is launched on. -/
def args : Args where
  a := m ((c : Thread nD τ).loc main_arg0)
  h := m ((c : Thread nD τ).loc main_arg1)
  seg := m ((c : Thread nD τ).loc main_arg2)
  mask := m ((c : Thread nD τ).loc main_arg3)
  w := m ((c : Thread nD τ).loc main_arg5)
  Wagn := m ((c : Thread nD τ).loc main_arg6)
  bagn := m ((c : Thread nD τ).loc main_arg7)
  Wnga := m ((c : Thread nD τ).loc main_arg8)
  bnga := m ((c : Thread nD τ).loc main_arg9)
  Wqna := m ((c : Thread nD τ).loc main_arg10)
  bqna := m ((c : Thread nD τ).loc main_arg11)
  Wqan := m ((c : Thread nD τ).loc main_arg12)
  bqan := m ((c : Thread nD τ).loc main_arg13)

theorem idxRows : ∀ t : Fin cfg0.N, win0_0.index t = ![t.val, 0] ∧ win0_10.index t = ![t.val, 0]
    ∧ win0_11.index t = ![t.val, 0] ∧ win0_12.index t = ![t.val, 0] :=
  (by decide +kernel : ∀ t : Fin grid0.N, _)

theorem idxWhole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

theorem lt64 : t.val < 64 := lt_of_lt_of_eq t.isLt N_0

/-- The graph at place `g` of block `t`. -/
def graph (g : Fin 8) : Fin 512 := ⟨t.val * 8 + g.val, by have := lt64 t; omega⟩

/-- A flag of one bit as a number. -/
theorem flag (b : BitVec 1) : FloatOps.uitofp (F := Ideal) .f32 b = if b = 1#1 then (1 : EReal) else 0 := by
  have h : FloatOps.uitofp (F := Ideal) .f32 b = (((b.toNat : ℝ)) : EReal) := rfl
  rw [h]
  rcases (by decide : ∀ b : BitVec 1, b = 0#1 ∨ b = 1#1) b with rfl | rfl <;> simp

/-- The word of two equal small numbers, as a number. -/
theorem onehot (x y : ℕ) (hx : x < 2 ^ 32) (hy : y < 2 ^ 32) :
    FloatOps.uitofp (F := Ideal) .f32 (IntOp.cmpi .eq (BitVec.ofNat 32 x) (BitVec.ofNat 32 y))
      = if y = x then (1 : EReal) else 0 := by
  have e : (BitVec.ofNat 32 x = BitVec.ofNat 32 y) ↔ y = x := by
    constructor
    · intro h
      have := congrArg BitVec.toNat h
      rw [BitVec.toNat_ofNat, BitVec.toNat_ofNat, Nat.mod_eq_of_lt hx, Nat.mod_eq_of_lt hy] at this
      exact this.symm
    · rintro rfl; rfl
  rw [flag]
  by_cases h : y = x
  · simp [IntOp.cmpi, h]
  · have h' : ¬ BitVec.ofNat 32 x = BitVec.ofNat 32 y := fun q => h (e.mp q)
    have : (BitVec.ofNat 32 x == BitVec.ofNat 32 y) = false := by simpa using h'
    simp [IntOp.cmpi, this, h]

/-! What the host operations before the launch leave in the buffers that the windows read. -/

section Host

theorem hostW (d : Fin 512) : V m c main_call0_v11 (ix2 0 d) = (args m c).w (ix1 d) := by
  unfold args V V0
  dsimp only
  simp only [hostOps0, List.flatten_cons, List.flatten_nil, List.append_nil,
    List.cons_append, List.nil_append]
  entry_read
  pointwise

theorem hostWnga (k : Fin 64) (d : Fin 512) : V m c main_call0_v12 (ix2 k d) = (args m c).Wnga (ix2 d k) := by
  unfold args V V0
  dsimp only
  simp only [hostOps0, List.flatten_cons, List.flatten_nil, List.append_nil,
    List.cons_append, List.nil_append]
  entry_read
  simp -implicitDefEqProofs only [StableHlo.TRef.toBuf, StableHlo.TRef.ofBuf, StableHlo.TRef.of, cast_eq]
  pointwise

theorem hostWqna (k : Fin 64) (d : Fin 512) : V m c main_call0_v13 (ix2 k d) = (args m c).Wqna (ix2 d k) := by
  unfold args V V0
  dsimp only
  simp only [hostOps0, List.flatten_cons, List.flatten_nil, List.append_nil,
    List.cons_append, List.nil_append]
  entry_read
  simp -implicitDefEqProofs only [StableHlo.TRef.toBuf, StableHlo.TRef.ofBuf, StableHlo.TRef.of, cast_eq]
  pointwise

theorem hostBagn (k : Fin 64) : V m c main_call0_v14 (ix2 0 k) = (args m c).bagn (ix1 k) := by
  unfold args V V0
  dsimp only
  simp only [hostOps0, List.flatten_cons, List.flatten_nil, List.append_nil,
    List.cons_append, List.nil_append]
  entry_read
  pointwise

theorem hostBnga (k : Fin 64) : V m c main_call0_v15 (ix2 0 k) = (args m c).bnga (ix1 k) := by
  unfold args V V0
  dsimp only
  simp only [hostOps0, List.flatten_cons, List.flatten_nil, List.append_nil,
    List.cons_append, List.nil_append]
  entry_read
  pointwise

theorem hostBqna (k : Fin 64) : V m c main_call0_v16 (ix2 0 k) = (args m c).bqna (ix1 k) := by
  unfold args V V0
  dsimp only
  simp only [hostOps0, List.flatten_cons, List.flatten_nil, List.append_nil,
    List.cons_append, List.nil_append]
  entry_read
  pointwise

theorem hostBqan (k : Fin 64) : V m c main_call0_v17 (ix2 0 k) = (args m c).bqan (ix1 k) := by
  unfold args V V0
  dsimp only
  simp only [hostOps0, List.flatten_cons, List.flatten_nil, List.append_nil,
    List.cons_append, List.nil_append]
  entry_read
  pointwise

theorem hostMask (b : Fin 512) (k : Fin 64) :
    V m c main_call0_v10 (ix2 b k) = if (args m c).may b k = 1#1 then (1 : EReal) else 0 := by
  unfold args Args.may V V0
  dsimp only
  simp only [hostOps0, List.flatten_cons, List.flatten_nil, List.append_nil,
    List.cons_append, List.nil_append]
  entry_read
  pointwise
  exact flag _

variable {a0 : Fin 512 → Fin 64} {a1 : Fin 512 → Fin 128} (ok : (args m c).Ok a0 a1)
include ok

theorem hostAct (b : Fin 512) (k : Fin 64) : V m c main_call0_v8 (ix2 b k) = if k = a0 b then (1 : EReal) else 0 := by
  have h := ok.act b
  unfold args at h
  dsimp only at h
  unfold V V0
  simp only [hostOps0, List.flatten_cons, List.flatten_nil, List.append_nil,
    List.cons_append, List.nil_append]
  entry_read
  simp only [StableHlo.TRef.ofBuf_toBuf]
  simp -implicitDefEqProofs only [StableHlo.TRef.toBuf, StableHlo.TRef.ofBuf, StableHlo.TRef.of, cast_eq]
  pointwise
  erw [h]
  rw [onehot _ _ (by omega) (by omega)]
  simp only [Fin.ext_iff]

theorem hostNode (b : Fin 512) (k : Fin 128) : V m c main_call0_v9 (ix2 b k) = if k = a1 b then (1 : EReal) else 0 := by
  have h := ok.node b
  unfold args at h
  dsimp only at h
  unfold V V0
  simp only [hostOps0, List.flatten_cons, List.flatten_nil, List.append_nil,
    List.cons_append, List.nil_append]
  entry_read
  simp only [StableHlo.TRef.ofBuf_toBuf]
  simp -implicitDefEqProofs only [StableHlo.TRef.toBuf, StableHlo.TRef.ofBuf, StableHlo.TRef.of, cast_eq]
  pointwise
  erw [h]
  have e : IntOp.subi (BitVec.ofNat 32 (node b (a1 b)).val) (IntOp.muli (BitVec.ofNat 32 b.val) 128#32)
      = BitVec.ofNat 32 (a1 b).val := by
    simp only [IntOp.subi, IntOp.muli, node]
    bv_omega
  rw [e, onehot _ _ (by omega) (by omega)]
  simp only [Fin.ext_iff]

end Host

section Rows

theorem rowsX (g : Fin 8) (j : Fin 128) (d : Fin 512) :
    iblk m c 0 t (ix2 (⟨g.val * 128 + j.val, by omega⟩ : Fin 1024) d) = (args m c).x (node (graph t g) j) d := by
  unfold Args.x args
  dsimp only
  blk_point [iblk, V, idxRows t]
  simp only [node, graph]; omega

theorem rowsAct (g : Fin 8) (k : Fin 64) : iblk m c 10 t (ix2 g k) = V m c main_call0_v8 (ix2 (graph t g) k) := by
  refine congrArg (V m c main_call0_v8) ?_
  blk_simp
  blk_ext [idxRows t]
  all_goals rfl

theorem rowsNode (g : Fin 8) (k : Fin 128) : iblk m c 11 t (ix2 g k) = V m c main_call0_v9 (ix2 (graph t g) k) := by
  refine congrArg (V m c main_call0_v9) ?_
  blk_simp
  blk_ext [idxRows t]
  all_goals rfl

theorem rowsMask (g : Fin 8) (k : Fin 64) : iblk m c 12 t (ix2 g k) = V m c main_call0_v10 (ix2 (graph t g) k) := by
  refine congrArg (V m c main_call0_v10) ?_
  blk_simp
  blk_ext [idxRows t]
  all_goals rfl

end Rows

section Whole

theorem wagn (d : Fin 512) (k : Fin 64) : iblk m c 1 t (ix2 d k) = (args m c).Wagn (ix2 d k) := by
  unfold args
  dsimp only
  blk_point [iblk, V, idxWhole t]

theorem wqan (d : Fin 512) (k : Fin 64) : iblk m c 5 t (ix2 d k) = (args m c).Wqan (ix2 d k) := by
  unfold args
  dsimp only
  blk_point [iblk, V, idxWhole t]

theorem wnode (d : Fin 512) : iblk m c 2 t (ix2 0 d) = (args m c).w (ix1 d) := by
  rw [← hostW]
  refine congrArg (V m c main_call0_v11) ?_
  blk_simp
  blk_ext [idxWhole t]

theorem wnga (k : Fin 64) (d : Fin 512) : iblk m c 3 t (ix2 k d) = (args m c).Wnga (ix2 d k) := by
  rw [← hostWnga]
  refine congrArg (V m c main_call0_v12) ?_
  blk_simp
  blk_ext [idxWhole t]

theorem wqna (k : Fin 64) (d : Fin 512) : iblk m c 4 t (ix2 k d) = (args m c).Wqna (ix2 d k) := by
  rw [← hostWqna]
  refine congrArg (V m c main_call0_v13) ?_
  blk_simp
  blk_ext [idxWhole t]

theorem bagn (k : Fin 64) : iblk m c 6 t (ix2 0 k) = (args m c).bagn (ix1 k) := by
  rw [← hostBagn]
  refine congrArg (V m c main_call0_v14) ?_
  blk_simp
  blk_ext [idxWhole t]

theorem bnga (k : Fin 64) : iblk m c 7 t (ix2 0 k) = (args m c).bnga (ix1 k) := by
  rw [← hostBnga]
  refine congrArg (V m c main_call0_v15) ?_
  blk_simp
  blk_ext [idxWhole t]

theorem bqna (k : Fin 64) : iblk m c 8 t (ix2 0 k) = (args m c).bqna (ix1 k) := by
  rw [← hostBqna]
  refine congrArg (V m c main_call0_v16) ?_
  blk_simp
  blk_ext [idxWhole t]

theorem bqan (k : Fin 64) : iblk m c 9 t (ix2 0 k) = (args m c).bqan (ix1 k) := by
  rw [← hostBqan]
  refine congrArg (V m c main_call0_v17) ?_
  blk_simp
  blk_ext [idxWhole t]

end Whole

end Cert.Blocks

end
-- ==== Proof.Body.lean ====
/-
  What the kernel's body stores for a block of eight graphs, read one graph `g` at a time: the numbers of `Head`.
-/
module

public import proofs.«01_k».proof.Proof.Numbers
public import proofs.«01_k».proof.Proof.Gen.KernelIdeal.Skeleton
public import Idealize.ShloMosaic.Lib.Pointwise

@[expose] public section

set_option maxRecDepth 16384

noncomputable section

namespace Cert.Body

open Idealize.ShloMosaic Cert.KernelIdeal Cert.KernelIdeal.Gen Cert.Head Cert.Numbers

/-- The row of the block that holds node `j` of graph `g`. -/
abbrev row (g : Fin 8) (j : Fin 128) : Fin 1024 := ⟨g.val * 128 + j.val, by omega⟩

theorem features (x0 : FVec Ideal S1024x512 .f32) (g : Fin 8) (j : Fin 128) (d : Fin 512) :
    k0_pay4 (F := Ideal) x0 (ix3 g j d) = x0 (ix2 (row g j) d) := by
  pointwise [k0_pay4]

/-- The logits of the actions given the node. -/
theorem actionLogits (x0 : FVec Ideal S1024x512 .f32) (x1 : FVec Ideal S512x64 .f32) (x6 : FVec Ideal S1x64 .f32)
    (g : Fin 8) (j : Fin 128) (c : Fin 64) :
    k0_pay8 (F := Ideal) x0 x1 x6 (ix3 g j c)
      = lin (fun d => x0 (ix2 (row g j) d)) (fun d => x1 (ix2 d c)) (x6 (ix2 0 c)) := by
  pointwise [k0_pay8, lin]

section Chosen
variable (x10 : FVec Ideal S8x64 .f32) (g : Fin 8) (a0 : Fin 64)
  (h10 : ∀ c, x10 (ix2 g c) = if c = a0 then (1 : EReal) else 0)
include h10

/-- The product with the one-hot row of the chosen action is that action's row of the weights. -/
theorem chosenRow (x3 : FVec Ideal S64x512 .f32) (d : Fin 512) :
    k0_pay9 (F := Ideal) x10 x3 (ix2 g d) = x3 (ix2 a0 d) := by
  pointwise [k0_pay9, k0_pay5, h10]
  exact sum_ind_mul a0 fun c => x3 (ix2 c d)

theorem chosenRow' (x3 : FVec Ideal S64x512 .f32) (d : Fin 512) :
    k0_pay10 (F := Ideal) x10 x3 (ix2 g d) = x3 (ix2 a0 d) :=
  chosenRow x10 g a0 h10 x3 d

theorem chosenBias (x7 : FVec Ideal S1x64 .f32) : k0_pay11 (F := Ideal) x10 x7 (ix2 g 0) = x7 (ix2 0 a0) := by
  pointwise [k0_pay11, k0_pay5, h10]
  exact sum_ind_mul a0 fun c => x7 (ix2 0 c)

theorem chosenBias' (x7 : FVec Ideal S1x64 .f32) : k0_pay12 (F := Ideal) x10 x7 (ix2 g 0) = x7 (ix2 0 a0) :=
  chosenBias x10 g a0 h10 x7

/-- The head of the chosen action, over the nodes: first the one of the node's logits. -/
theorem chosenHead (x0 : FVec Ideal S1024x512 .f32) (x3 : FVec Ideal S64x512 .f32) (x7 : FVec Ideal S1x64 .f32) (j : Fin 128) :
    k0_pay13 (F := Ideal) (k0_pay4 x0) (k0_pay9 x10 x3) (k0_pay11 x10 x7) (ix2 g j)
      = lin (fun d => x0 (ix2 (row g j) d)) (fun d => x3 (ix2 a0 d)) (x7 (ix2 0 a0)) := by
  pointwise [k0_pay13, features, chosenRow x10 g a0 h10, chosenBias x10 g a0 h10, lin]

/-- … then the one of the node's values. -/
theorem chosenHead' (x0 : FVec Ideal S1024x512 .f32) (x3 : FVec Ideal S64x512 .f32) (x7 : FVec Ideal S1x64 .f32) (j : Fin 128) :
    k0_pay14 (F := Ideal) (k0_pay4 x0) (k0_pay10 x10 x3) (k0_pay12 x10 x7) (ix2 g j)
      = lin (fun d => x0 (ix2 (row g j) d)) (fun d => x3 (ix2 a0 d)) (x7 (ix2 0 a0)) :=
  chosenHead x10 g a0 h10 x0 x3 x7 j

/-- One where the chosen action is not the first. -/
theorem needsNode : k0_pay18 (F := Ideal) (k0_pay5 x10) (ix2 g 0) = if 0 < a0.val then (1 : EReal) else 0 := by
  pointwise [k0_pay18, k0_pay5, h10]
  rw [one_sub_ind]
  by_cases h : a0 = 0
  · subst h; simp
  · rw [if_neg (Ne.symm h), if_pos (Nat.pos_of_ne_zero fun e => h (Fin.ext e))]

end Chosen

section Masked
variable (x12 : FVec Ideal S8x64 .f32) (g : Fin 8) (mk : Fin 64 → BitVec 1)
  (h12 : ∀ c, x12 (ix2 g c) = if mk c = 1#1 then (1 : EReal) else 0)
include h12

/-- The node's probability times the action's given the node. -/
theorem joint (v1 : FVec Ideal S8x128x512 .f32) (v14 : FVec Ideal S8x128x64 .f32) (x2 : FVec Ideal S1x512 .f32)
    (j : Fin 128) (c : Fin 64) :
    k0_pay15 (F := Ideal) v1 (k0_pay7 x12) v14 x2 (ix3 g j c)
      = softNode (fun j => ∑ d, v1 (ix3 g j d) * x2 (ix2 0 d)) j * softAct (masked mk fun c => v14 (ix3 g j c)) c := by
  pointwise [k0_pay15, k0_pay7, h12, half_lt_ind, softNode, softAct, masked, ex, top, eps, low, ninf]

theorem actions (v80 : FVec Ideal S8x128x64 .f32) (nl : Fin 128 → EReal) (agn : Fin 128 → Fin 64 → EReal)
    (h80 : ∀ j c, v80 (ix3 g j c) = softNode nl j * softAct (masked mk (agn j)) c) (c : Fin 64) :
    k0_pay16 (F := Ideal) (k0_pay7 x12) v80 (ix2 g c) = act mk nl agn c := by
  pointwise [k0_pay16, k0_pay7, h12, h80, half_lt_ind, act, actRaw, eps]

end Masked

theorem nodes (v44 : FVec Ideal S8x128 .f32) (g : Fin 8) (f : Fin 128 → EReal) (h44 : ∀ j, v44 (ix2 g j) = f j) (j : Fin 128) :
    k0_pay17 (F := Ideal) v44 (ix2 g j) = softNode f j := by
  pointwise [k0_pay17, h44, softNode, ex, top, eps, ninf]

/-! The three stored arrays at graph `g`, any lane `l`. -/

theorem storedLogprob (v3 v7 : FVec Ideal S8x64 .f32) (v5 v44 : FVec Ideal S8x128 .f32) (v80 : FVec Ideal S8x128x64 .f32)
    (g : Fin 8) (l : Fin 128) (a0 : Fin 64) (a1 : Fin 128) (pa : Fin 64 → EReal) (f : Fin 128 → EReal)
    (h3 : ∀ c, v3 (ix2 g c) = if c = a0 then (1 : EReal) else 0)
    (h5 : ∀ j, v5 (ix2 g j) = if j = a1 then (1 : EReal) else 0)
    (hn : k0_pay18 (F := Ideal) v3 (ix2 g 0) = if 0 < a0.val then (1 : EReal) else 0)
    (h44 : ∀ j, v44 (ix2 g j) = f j) (hpa : ∀ c, k0_pay16 (F := Ideal) v7 v80 (ix2 g c) = pa c) :
    k0_pay1 (F := Ideal) (k0_pay23 (k0_pay19 v3 v5 v7 v44 v80)) (ix3 0 g l) = logprob pa (softNode f) a0 a1 := by
  pointwise [k0_pay1, k0_pay23, k0_pay19, h3, h5, hn, hpa, nodes v44 g f h44]
  rw [sum_mul_ind a0 pa, sum_mul_ind a1 (softNode f), ite_mul, one_mul, zero_mul]
  rfl

theorem storedEntropy (v7 : FVec Ideal S8x64 .f32) (v44 : FVec Ideal S8x128 .f32) (v80 : FVec Ideal S8x128x64 .f32)
    (v117 : FVec Ideal S8x1 .f32)
    (g : Fin 8) (l : Fin 128) (a0 : Fin 64) (mk : Fin 64 → BitVec 1) (pa : Fin 64 → EReal) (f : Fin 128 → EReal)
    (h7 : ∀ c, v7 (ix2 g c) = if mk c = 1#1 then (1 : EReal) else 0)
    (hn : v117 (ix2 g 0) = if 0 < a0.val then (1 : EReal) else 0)
    (h44 : ∀ j, v44 (ix2 g j) = f j) (hpa : ∀ c, k0_pay16 (F := Ideal) v7 v80 (ix2 g c) = pa c) :
    k0_pay2 (F := Ideal) (k0_pay21 v7 (k0_pay17 v44) v117 (k0_pay20 v7 v80) (Scalar.ofBits .f32 0x00000000#32)) (ix3 0 g l)
      = entropy mk pa (softNode f) a0 := by
  pointwise [k0_pay2, k0_pay21, k0_pay20, h7, hn, hpa, nodes v44 g f h44]
  rw [zero_sub, zero_sub]
  unfold entropy
  refine congrArg₂ (· + ·) rfl ?_
  have hs := half_lt_sum_ind fun x : Fin 63 => mk ⟨1 + x.val, by omega⟩ = 1#1
  by_cases hm : NodesMatter mk
  · rw [if_pos (hs.2 hm), one_mul, ite_mul, one_mul, zero_mul]
    simp only [hm, true_and]
    rfl
  · rw [if_neg fun h => hm (hs.1 h), zero_mul, zero_mul, if_neg fun h => hm h.1]

theorem storedValue (x0 : FVec Ideal S1024x512 .f32) (v50 v102 : FVec Ideal S8x128 .f32) (v91 : FVec Ideal S8x64 .f32)
    (x5 : FVec Ideal S512x64 .f32) (x9 : FVec Ideal S1x64 .f32)
    (g : Fin 8) (l : Fin 128) (qs pn : Fin 128 → EReal) (pa : Fin 64 → EReal)
    (h50 : ∀ j, v50 (ix2 g j) = qs j) (h102 : ∀ j, v102 (ix2 g j) = pn j) (h91 : ∀ c, v91 (ix2 g c) = pa c)
    (hx : ∀ i d, ∃ r : ℝ, x0 (ix2 i d) = (r : EReal)) (hw : ∀ d c, ∃ r : ℝ, x5 (ix2 d c) = (r : EReal)) :
    k0_pay3 (F := Ideal) (k0_pay22 (k0_pay4 x0) v50 v91 v102 x5 x9) (ix3 0 g l)
      = value qs (fun j c => lin (fun d => x0 (ix2 (row g j) d)) (fun d => x5 (ix2 d c)) (x9 (ix2 0 c))) pa pn := by
  pointwise [k0_pay3, k0_pay22, features, h50, h102, h91, value]
  refine congrArg₂ (· + ·) rfl (Finset.sum_congr rfl fun c _ => congrArg (· * pa c) ?_)
  rw [sum_lin (fun j d => x0 (ix2 (row g j) d)) _ _ (fun _ _ => hx _ _) (fun d => hw d c), c128_eq]
  norm_num

end Cert.Body

end
-- ==== Proof.KernelParts.lean ====
/-
  What one grid point of the kernel computes: the payloads on the blocks of grid point `t`, for the graph at place `g` of
  the block.
-/
module

public import proofs.«01_k».proof.Proof.Blocks
public import proofs.«01_k».proof.Proof.Body

@[expose] public section

set_option maxRecDepth 16384

noncomputable section

namespace Cert.KernelValue

open Idealize.ShloMosaic Idealize.ShloMosaic.TcCoe Idealize.SL.Sem
open Cert.KernelIdeal Cert.KernelIdeal.Gen Cert.Head Cert.Numbers Cert.Blocks
open Idealize.ShloMosaic.Pipeline (Dat)

variable (m : (ℓ : Loc nD τ sig) → Buf (Elt Ideal) ℓ) (c : Dev nD)

theorem idxOut : ∀ t : Fin cfg0.N, win0_13.index t = ![t.val, 0, 0] ∧ win0_14.index t = ![t.val, 0, 0]
    ∧ win0_15.index t = ![t.val, 0, 0] :=
  (by decide +kernel : ∀ t : Fin grid0.N, _)

variable {a0 : Fin 512 → Fin 64} {a1 : Fin 512 → Fin 128} (ok : (args m c).Ok a0 a1)

section Parts

variable (t : Fin cfg0.N) (g : Fin 8)

include ok

theorem partChosen (k : Fin 64) : k0_pay5 (iblk m c 10 t) (ix2 g k) = if k = a0 (graph t g) then (1 : EReal) else 0 := by
  pointwise [k0_pay5]
  rw [rowsAct, hostAct m c ok]

theorem partNode (j : Fin 128) : k0_pay6 (iblk m c 11 t) (ix2 g j) = if j = a1 (graph t g) then (1 : EReal) else 0 := by
  pointwise [k0_pay6]
  rw [rowsNode, hostNode m c ok]

theorem partNeeds : k0_pay18 (k0_pay5 (iblk m c 10 t)) (ix2 g 0) = if 0 < (a0 (graph t g)).val then (1 : EReal) else 0 :=
  Body.needsNode _ g _ fun k => by rw [rowsAct, hostAct m c ok]

/-- The logits of the nodes given the chosen action. -/
theorem partNga (j : Fin 128) :
    k0_pay13 (k0_pay4 (iblk m c 0 t)) (k0_pay9 (iblk m c 10 t) (iblk m c 3 t)) (k0_pay11 (iblk m c 10 t) (iblk m c 7 t)) (ix2 g j)
      = (args m c).nga (a0 (graph t g)) (node (graph t g) j) := by
  rw [Body.chosenHead _ g (a0 (graph t g)) (fun k => by rw [rowsAct, hostAct m c ok])]
  unfold Args.nga Body.row
  simp only [wnga, bnga]
  congr 1
  funext d
  exact rowsX m c t g j d

/-- The values of the nodes given the chosen action. -/
theorem partQna (j : Fin 128) :
    k0_pay14 (k0_pay4 (iblk m c 0 t)) (k0_pay10 (iblk m c 10 t) (iblk m c 4 t)) (k0_pay12 (iblk m c 10 t) (iblk m c 8 t)) (ix2 g j)
      = (args m c).qna (a0 (graph t g)) (node (graph t g) j) := by
  rw [Body.chosenHead' _ g (a0 (graph t g)) (fun k => by rw [rowsAct, hostAct m c ok])]
  unfold Args.qna Body.row
  simp only [wqna, bqna]
  congr 1
  funext d
  exact rowsX m c t g j d

omit ok in
theorem partMask (k : Fin 64) : iblk m c 12 t (ix2 g k) = if (args m c).may (graph t g) k = 1#1 then (1 : EReal) else 0 := by
  rw [rowsMask, hostMask]

omit ok in
theorem partMask' (k : Fin 64) :
    k0_pay7 (iblk m c 12 t) (ix2 g k) = if (args m c).may (graph t g) k = 1#1 then (1 : EReal) else 0 := by
  pointwise [k0_pay7]
  exact partMask m c t g k

omit ok in
/-- The probabilities of the actions of the graph. -/
theorem partPa (k : Fin 64) :
    k0_pay16 (k0_pay7 (iblk m c 12 t)) (k0_pay15 (k0_pay4 (iblk m c 0 t)) (k0_pay7 (iblk m c 12 t))
      (k0_pay8 (iblk m c 0 t) (iblk m c 1 t) (iblk m c 6 t)) (iblk m c 2 t)) (ix2 g k) = (args m c).pa (graph t g) k := by
  refine Body.actions _ g _ (partMask m c t g) _ _ _ (fun j k => ?_) k
  rw [Body.joint _ g _ (partMask m c t g)]
  congr 2
  · funext j
    unfold Args.nl
    simp only [wnode, Body.features]
    exact Finset.sum_congr rfl fun d _ => by rw [← rowsX]
  · refine congrArg (masked _) (funext fun k => ?_)
    rw [Body.actionLogits]
    unfold Args.agn
    simp only [wagn, bagn]
    congr 1
    funext d
    exact rowsX m c t g j d

theorem partLogprob (l : Fin 128) :
    k0_pay1 (k0_pay23 (k0_pay19 (k0_pay5 (iblk m c 10 t)) (k0_pay6 (iblk m c 11 t)) (k0_pay7 (iblk m c 12 t))
      (k0_pay13 (k0_pay4 (iblk m c 0 t)) (k0_pay9 (iblk m c 10 t) (iblk m c 3 t)) (k0_pay11 (iblk m c 10 t) (iblk m c 7 t)))
      (k0_pay15 (k0_pay4 (iblk m c 0 t)) (k0_pay7 (iblk m c 12 t)) (k0_pay8 (iblk m c 0 t) (iblk m c 1 t) (iblk m c 6 t))
        (iblk m c 2 t)))) (ix3 0 g l) = (args m c).logprob (graph t g) a0 a1 :=
  Body.storedLogprob _ _ _ _ _ g l (a0 (graph t g)) (a1 (graph t g)) ((args m c).pa (graph t g))
    (fun j => (args m c).nga (a0 (graph t g)) (node (graph t g) j)) (partChosen m c ok t g) (partNode m c ok t g)
    (partNeeds m c ok t g) (partNga m c ok t g) (partPa m c t g)

theorem partEntropy (l : Fin 128) :
    k0_pay2 (k0_pay21 (k0_pay7 (iblk m c 12 t))
      (k0_pay17 (k0_pay13 (k0_pay4 (iblk m c 0 t)) (k0_pay9 (iblk m c 10 t) (iblk m c 3 t))
        (k0_pay11 (iblk m c 10 t) (iblk m c 7 t))))
      (k0_pay18 (k0_pay5 (iblk m c 10 t)))
      (k0_pay20 (k0_pay7 (iblk m c 12 t))
        (k0_pay15 (k0_pay4 (iblk m c 0 t)) (k0_pay7 (iblk m c 12 t)) (k0_pay8 (iblk m c 0 t) (iblk m c 1 t) (iblk m c 6 t))
          (iblk m c 2 t))) (Scalar.ofBits .f32 0x00000000#32)) (ix3 0 g l) = (args m c).entropy (graph t g) a0 :=
  Body.storedEntropy _ _ _ _ g l (a0 (graph t g)) ((args m c).may (graph t g)) ((args m c).pa (graph t g))
    (fun j => (args m c).nga (a0 (graph t g)) (node (graph t g) j)) (partMask' m c t g)
    (partNeeds m c ok t g) (partNga m c ok t g) (partPa m c t g)

theorem partValue (l : Fin 128) :
    k0_pay3 (k0_pay22 (k0_pay4 (iblk m c 0 t))
      (k0_pay14 (k0_pay4 (iblk m c 0 t)) (k0_pay10 (iblk m c 10 t) (iblk m c 4 t)) (k0_pay12 (iblk m c 10 t) (iblk m c 8 t)))
      (k0_pay16 (k0_pay7 (iblk m c 12 t)) (k0_pay15 (k0_pay4 (iblk m c 0 t)) (k0_pay7 (iblk m c 12 t))
        (k0_pay8 (iblk m c 0 t) (iblk m c 1 t) (iblk m c 6 t)) (iblk m c 2 t)))
      (k0_pay17 (k0_pay13 (k0_pay4 (iblk m c 0 t)) (k0_pay9 (iblk m c 10 t) (iblk m c 3 t))
        (k0_pay11 (iblk m c 10 t) (iblk m c 7 t))))
      (iblk m c 5 t) (iblk m c 9 t)) (ix3 0 g l) = (args m c).value (graph t g) a0 := by
  refine (Body.storedValue _ _ _ _ _ _ g l (fun j => (args m c).qna (a0 (graph t g)) (node (graph t g) j))
    ((args m c).pn (graph t g) (a0 (graph t g))) ((args m c).pa (graph t g)) (partQna m c ok t g)
    (Body.nodes _ g _ (partNga m c ok t g)) (partPa m c t g) ?_ ?_).trans ?_
  · intro i d
    obtain ⟨g, j, rfl⟩ : ∃ (g : Fin 8) (j : Fin 128), i = (⟨g.val * 128 + j.val, by omega⟩ : Fin 1024) :=
      ⟨⟨i.val / 128, by omega⟩, ⟨i.val % 128, by omega⟩, by ext; dsimp only; omega⟩
    rw [rowsX]; exact ok.h _ d
  · intro d k
    rw [wqan]; exact ok.Wqan d k
  · have e : (fun (j : Fin 128) (k : Fin 64) => lin (fun d => iblk m c 0 t (ix2 (Body.row g j) d)) (fun d => iblk m c 5 t (ix2 d k))
        (iblk m c 9 t (ix2 0 k))) = fun j => (args m c).qan (node (graph t g) j) := by
      funext j k
      unfold Args.qan
      simp only [wqan, bqan]
      refine congrArg (fun x => lin x _ _) (funext fun d => ?_)
      exact rowsX m c t g j d
    unfold Args.value
    rw [← e]

end Parts

end Cert.KernelValue

end
-- ==== Proof.KernelValue.lean ====
/-
  What the kernel stores: the three output arrays after the last grid point, and the three results that the host
  operations after it read off lane 0.
-/
module

public import proofs.«01_k».proof.Proof.KernelParts

@[expose] public section

set_option maxRecDepth 16384

noncomputable section

namespace Cert.KernelValue

open Idealize.ShloMosaic Idealize.ShloMosaic.TcCoe Idealize.SL.Sem
open Cert.KernelIdeal Cert.KernelIdeal.Gen Cert.Head Cert.Numbers Cert.Blocks
open Idealize.ShloMosaic.Pipeline (Dat)

variable (m : (ℓ : Loc nD τ sig) → Buf (Elt Ideal) ℓ) (c : Dev nD)
variable {a0 : Fin 512 → Fin 64} {a1 : Fin 512 → Fin 128} (ok : (args m c).Ok a0 a1)

/-- The graph at the block `i` and the place `j` in it. -/
def at' (i : Fin 64) (j : Fin 8) : Fin 512 := ⟨i.val * 8 + j.val, by omega⟩

theorem graph0 (t : Fin cfg0.N) (y1 : Fin 8) (y2 : Fin 128) :
    graph t y1 = at' (((View.whole main_call0_v18_0).slice (win0_13.rect t)).emb (ix3 0 y1 y2) 0)
      (((View.whole main_call0_v18_0).slice (win0_13.rect t)).emb (ix3 0 y1 y2) 1) := by
  have e : ((View.whole main_call0_v18_0).slice (win0_13.rect t)).emb (ix3 0 y1 y2) = ix3 ⟨t.val, lt64 t⟩ y1 y2 := by
    blk_ext [idxOut t]
  rw [e]
  rfl

theorem graph1 (t : Fin cfg0.N) (y1 : Fin 8) (y2 : Fin 128) :
    graph t y1 = at' (((View.whole main_call0_v18_1).slice (win0_14.rect t)).emb (ix3 0 y1 y2) 0)
      (((View.whole main_call0_v18_1).slice (win0_14.rect t)).emb (ix3 0 y1 y2) 1) := by
  have e : ((View.whole main_call0_v18_1).slice (win0_14.rect t)).emb (ix3 0 y1 y2) = ix3 ⟨t.val, lt64 t⟩ y1 y2 := by
    blk_ext [idxOut t]
  rw [e]
  rfl

theorem graph2 (t : Fin cfg0.N) (y1 : Fin 8) (y2 : Fin 128) :
    graph t y1 = at' (((View.whole main_call0_v18_2).slice (win0_15.rect t)).emb (ix3 0 y1 y2) 0)
      (((View.whole main_call0_v18_2).slice (win0_15.rect t)).emb (ix3 0 y1 y2) 1) := by
  have e : ((View.whole main_call0_v18_2).slice (win0_15.rect t)).emb (ix3 0 y1 y2) = ix3 ⟨t.val, lt64 t⟩ y1 y2 := by
    blk_ext [idxOut t]
  rw [e]
  rfl

theorem arrays : Function.Injective (Pipeline.arrRef (cfgs 0).spec) := by
  have h : ∀ w w' : Fin 16, Pipeline.arrRef spec0 w = Pipeline.arrRef spec0 w' → w = w' := by decide
  exact fun w w' e => h w w' e

/-- Lane 0 of a stored array, block by block, is the array graph by graph. -/
theorem lane0 (u : FVec Ideal S64x8x128 .f32) (f : Fin 512 → EReal) (h : u = fun i : S64x8x128.Idx => f (at' (i 0) (i 1))) (i : S512.Idx) :
    shapeCast S512 (shapeCast S64x8 (extractStridedSlice S64x8x1 ![0, 0, 0] u slices_S64x8x128_S64x8x1_0_0_0)
      shapeCasts_S64x8x1_S64x8) shapeCasts_S64x8_S512 i = f (i 0) := by
  subst h
  idx_vars i
  pointwise
  refine congrArg f (Fin.ext ?_)
  unfold at'
  dsimp only
  omega

include ok

theorem logprobs : (dats m 0 c).arrAt 13 (cfgs 0).N = fun i : S64x8x128.Idx => (args m c).logprob (at' (i 0) (i 1)) a0 a1 := by
  refine (dats m 0 c).arrAt_eq_of_covers 13 _ (by decide +kernel) fun t _ y => ?_
  blk_simp
  rw [after0_13]
  frame_out [k0_pay24, k0_pay25, k0_pay26, k0_pay27, k0_pay28, k0_pay29]
  idx_vars y
  obtain rfl : y0 = 0 := Subsingleton.elim _ _
  exact (partLogprob m c ok t y1 y2).trans (congrArg (fun b => (args m c).logprob b a0 a1) (graph0 t y1 y2))

theorem entropies : (dats m 0 c).arrAt 14 (cfgs 0).N = fun i : S64x8x128.Idx => (args m c).entropy (at' (i 0) (i 1)) a0 := by
  refine (dats m 0 c).arrAt_eq_of_covers 14 _ (by decide +kernel) fun t _ y => ?_
  blk_simp
  rw [after0_14]
  frame_out [k0_pay24, k0_pay25, k0_pay26, k0_pay27, k0_pay28, k0_pay29]
  idx_vars y
  obtain rfl : y0 = 0 := Subsingleton.elim _ _
  exact (partEntropy m c ok t y1 y2).trans (congrArg (fun b => (args m c).entropy b a0) (graph1 t y1 y2))

theorem values : (dats m 0 c).arrAt 15 (cfgs 0).N = fun i : S64x8x128.Idx => (args m c).value (at' (i 0) (i 1)) a0 := by
  refine (dats m 0 c).arrAt_eq_of_covers 15 _ (by decide +kernel) fun t _ y => ?_
  blk_simp
  rw [after0_15]
  frame_out [k0_pay24, k0_pay25, k0_pay26, k0_pay27, k0_pay28, k0_pay29]
  idx_vars y
  obtain rfl : y0 = 0 := Subsingleton.elim _ _
  exact (partValue m c ok t y1 y2).trans (congrArg (fun b => (args m c).value b a0) (graph2 t y1 y2))

theorem result0 : Pipeline.afterTail₀ cfgs (dats m) 0 (V0 m) [hostOps1] c main_v0_0 = fun i : S512.Idx => (args m c).logprob (i 0) a0 a1 := by
  unfold Pipeline.afterTail₀
  have e := (Pipeline.withArrays_arr (cfgs 0).spec arrays c (V0 m c) (fun w => (dats m 0 c).arrAt w (cfgs 0).N) 13).trans
    (logprobs m c ok)
  simp only [hostOps1, List.flatten_cons, List.flatten_nil, List.append_nil]
  after_results
  funext i
  exact lane0 _ (fun b => (args m c).logprob b a0 a1) e i

theorem result1 : Pipeline.afterTail₀ cfgs (dats m) 0 (V0 m) [hostOps1] c main_v0_1 = fun i : S512.Idx => (args m c).entropy (i 0) a0 := by
  unfold Pipeline.afterTail₀
  have e := (Pipeline.withArrays_arr (cfgs 0).spec arrays c (V0 m c) (fun w => (dats m 0 c).arrAt w (cfgs 0).N) 14).trans
    (entropies m c ok)
  simp only [hostOps1, List.flatten_cons, List.flatten_nil, List.append_nil]
  after_results
  funext i
  exact lane0 _ (fun b => (args m c).entropy b a0) e i

theorem result2 : Pipeline.afterTail₀ cfgs (dats m) 0 (V0 m) [hostOps1] c main_v0_2 = fun i : S512.Idx => (args m c).value (i 0) a0 := by
  unfold Pipeline.afterTail₀
  have e := (Pipeline.withArrays_arr (cfgs 0).spec arrays c (V0 m c) (fun w => (dats m 0 c).arrAt w (cfgs 0).N) 15).trans
    (values m c ok)
  simp only [hostOps1, List.flatten_cons, List.flatten_nil, List.append_nil]
  after_results
  funext i
  exact lane0 _ (fun b => (args m c).value b a0) e i

end Cert.KernelValue

end
-- ==== Proof.Moves.lean ====
/-
  The reference's gathers and scattered sums, read at an index, where the index words are small numbers; and what the
  marks of the nodes make of a sum and of a maximum over all nodes.
-/
module

public import proofs.«01_k».proof.Proof.Numbers
public import proofs.«01_k».proof.Proof.Arguments
public import proofs.«01_k».proof.Proof.Gen.ReferenceIdeal.Read
public import Idealize.ShloMosaic.Lib.Routing.OpsPair
public import Idealize.ShloMosaic.Lib.Pointwise

@[expose] public section

set_option maxRecDepth 16384

noncomputable section

namespace Cert.Moves

open Idealize.ShloMosaic Cert.ReferenceIdeal Cert.Head

/-! ### Words of small numbers -/

theorem toInt_small (k : ℕ) (h : k < 2 ^ 31) : (BitVec.ofNat 32 k).toInt = (k : ℤ) := by
  rw [BitVec.toInt_eq_toNat_cond, BitVec.toNat_ofNat]
  have : k % 2 ^ 32 = k := Nat.mod_eq_of_lt (by omega)
  rw [this, if_pos (by omega)]

theorem ofNat_inj (x y : ℕ) (hx : x < 2 ^ 32) (hy : y < 2 ^ 32) : BitVec.ofNat 32 x = BitVec.ofNat 32 y ↔ x = y := by
  constructor
  · intro h
    have := congrArg BitVec.toNat h
    rwa [BitVec.toNat_ofNat, BitVec.toNat_ofNat, Nat.mod_eq_of_lt hx, Nat.mod_eq_of_lt hy] at this
  · rintro rfl; rfl

/-- An index that is not negative is left as it is. -/
theorem wrap (k : ℕ) (h : k < 2 ^ 31) (a : BitVec 32) :
    Scalar.select (IntOp.cmpi .slt (BitVec.ofNat 32 k) 0#32) a (BitVec.ofNat 32 k) = BitVec.ofNat 32 k :=
  Routing.wrap_of_lt _ _ (by rw [BitVec.toNat_ofNat, Nat.mod_eq_of_lt (by omega)]; omega)

/-! ### Gathers -/

theorem gather_at {α : Type} {w : ℕ} {s si t : Shape} (d : GatherDims s si t) (x : s.Idx → α) (idx : IVec si w) (j : t.Idx) (p : s.Idx)
    (h : ∀ a, d.start j idx a + d.batchCoord j a + d.offCoord j a = (p a).val) : Host.gather d x idx j = x p := by
  unfold Host.gather
  congr 1
  funext a
  exact Fin.ext (h a)

theorem gather_vec {α : Type} {w N : ℕ} {si t : Shape} (d : GatherDims ⟨1, ![N]⟩ si t) (x : (⟨1, ![N]⟩ : Shape).Idx → α)
    (idx : IVec si w) (j : t.Idx) (p : Fin N) (h : d.start j idx 0 + d.batchCoord j 0 + d.offCoord j 0 = p.val) :
    Host.gather d x idx j = x (ix1 p) :=
  gather_at d x idx j _ fun a => match a with | ⟨0, _⟩ => h

theorem gather_mat {α : Type} {w N K : ℕ} {si t : Shape} (d : GatherDims ⟨2, ![N, K]⟩ si t) (x : (⟨2, ![N, K]⟩ : Shape).Idx → α)
    (idx : IVec si w) (j : t.Idx) (p : Fin N) (q : Fin K) (h : d.start j idx 0 + d.batchCoord j 0 + d.offCoord j 0 = p.val)
    (h' : d.start j idx 1 + d.batchCoord j 1 + d.offCoord j 1 = q.val) :
    Host.gather d x idx j = x (ix2 p q) :=
  gather_at d x idx j _ fun a => match a with | ⟨0, _⟩ => h | ⟨1, _⟩ => h'

/-- The start on an axis of the start index map. -/
theorem start_at {w : ℕ} {s si t : Shape} (d : GatherDims s si t) (idx : IVec si w) (j : t.Idx) (a : Fin s.rank)
    (ha : a ∈ d.startIndexMap) (q : si.Idx) (hq : d.siIdx j ⟨d.startIndexMap.idxOf a, List.idxOf_lt_length_iff.2 ha⟩ = q) (k : ℕ)
    (hk : (idx q).toInt = (k : ℤ)) (hs : k ≤ s.size a - d.sliceSizes a) : d.start j idx a = k := by
  unfold GatherDims.start
  rw [dif_pos ha, hq, hk]
  simp only [Int.toNat_natCast]
  omega

section
variable {α : Type}

/-- A row of a table per node. -/
theorem rows (x : S512x64.Idx → α) (idx : IVec S65536x1 32) (n : Fin 65536) (c : Fin 64) (b : Fin 512)
    (h : idx (ix2 n 0) = BitVec.ofNat 32 b.val) :
    Host.gather gather_S512x64_S65536x1_S65536x64_1_0_n_n_0_1_164 x idx (ix2 n c) = x (ix2 b c) := by
  refine gather_mat _ x idx _ _ _ ?_ ?_
  · rw [GatherDims.batchCoord_eq_zero _ _ _ (by decide), GatherDims.offCoord_eq_zero _ _ _ (by decide)]
    exact start_at gather_S512x64_S65536x1_S65536x64_1_0_n_n_0_1_164 idx _ 0 (by decide) (ix2 n 0)
      (by funext e; match e with | ⟨0, _⟩ => rfl | ⟨1, _⟩ => rfl) b.val
      (by rw [h, toInt_small _ (by omega)]) (by have := b.isLt; show b.val ≤ 512 - 1; omega)
  · rw [GatherDims.batchCoord_eq_zero _ _ _ (by decide)]
    unfold GatherDims.start
    rw [dif_neg (by decide)]
    show 0 + 0 + c.val = c.val
    omega

/-- An entry per graph, read per node. -/
theorem perGraph (x : S512.Idx → α) (idx : IVec S65536x1 32) (n : Fin 65536) (b : Fin 512)
    (h : idx (ix2 n 0) = BitVec.ofNat 32 b.val) :
    Host.gather gather_S512_S65536x1_S65536_n_0_n_n_0_1_1 x idx (ix1 n) = x (ix1 b) := by
  refine gather_vec _ x idx _ _ ?_
  rw [GatherDims.batchCoord_eq_zero _ _ _ (by decide), GatherDims.offCoord_eq_zero _ _ _ (by decide)]
  exact start_at gather_S512_S65536x1_S65536_n_0_n_n_0_1_1 idx _ 0 (by decide) (ix2 n 0)
    (by funext e; match e with | ⟨0, _⟩ => rfl | ⟨1, _⟩ => rfl) b.val
    (by rw [h, toInt_small _ (by omega)]) (by have := b.isLt; show b.val ≤ 512 - 1; omega)

/-- An entry per node, read per graph. -/
theorem perNode (x : S65536.Idx → α) (idx : IVec S512x1 32) (b : Fin 512) (n : Fin 65536)
    (h : idx (ix2 b 0) = BitVec.ofNat 32 n.val) :
    Host.gather gather_S65536_S512x1_S512_n_0_n_n_0_1_1 x idx (ix1 b) = x (ix1 n) := by
  refine gather_vec _ x idx _ _ ?_
  rw [GatherDims.batchCoord_eq_zero _ _ _ (by decide), GatherDims.offCoord_eq_zero _ _ _ (by decide)]
  exact start_at gather_S65536_S512x1_S512_n_0_n_n_0_1_1 idx _ 0 (by decide) (ix2 b 0)
    (by funext e; match e with | ⟨0, _⟩ => rfl | ⟨1, _⟩ => rfl) n.val
    (by rw [h, toInt_small _ (by omega)]) (by have := n.isLt; show n.val ≤ 65536 - 1; omega)

/-- Of every row, the entry in a column of its own. -/
theorem along (x : S65536x64.Idx → α) (idx : IVec S65536x1x1 32) (n : Fin 65536) (c : Fin 64)
    (h : idx (ix3 n 0 0) = BitVec.ofNat 32 c.val) :
    Host.gather gather_S65536x64_S65536x1x1_S65536x1_n_1_0_0_1_2_11 x idx (ix2 n 0) = x (ix2 n c) := by
  refine gather_mat _ x idx _ _ _ ?_ ?_
  · rw [GatherDims.offCoord_eq_zero _ _ _ (by decide), GatherDims.start_batching _ _ _ _ (by decide)]
    show 0 + n.val + 0 = n.val
    omega
  · rw [GatherDims.batchCoord_eq_zero _ _ _ (by decide), GatherDims.offCoord_eq_zero _ _ _ (by decide)]
    exact start_at gather_S65536x64_S65536x1x1_S65536x1_n_1_0_0_1_2_11 idx _ 1 (by decide) (ix3 n 0 0)
      (by funext e; match e with | ⟨0, _⟩ => rfl | ⟨1, _⟩ => rfl | ⟨2, _⟩ => rfl) c.val
      (by rw [h, toInt_small _ (by omega)]) (by have := c.isLt; show c.val ≤ 64 - 1; omega)

/-- Entries of a table at pairs of indices. -/
theorem pairs (x : S512x64.Idx → α) (idx : IVec S512x2 32) (b b' : Fin 512) (c : Fin 64)
    (h0 : idx (ix2 b 0) = BitVec.ofNat 32 b'.val) (h1 : idx (ix2 b 1) = BitVec.ofNat 32 c.val) :
    Host.gather gather_S512x64_S512x2_S512_n_01_n_n_01_1_11 x idx (ix1 b) = x (ix2 b' c) := by
  refine gather_mat _ x idx _ _ _ ?_ ?_
  · rw [GatherDims.batchCoord_eq_zero _ _ _ (by decide), GatherDims.offCoord_eq_zero _ _ _ (by decide)]
    exact start_at gather_S512x64_S512x2_S512_n_01_n_n_01_1_11 idx _ 0 (by decide) (ix2 b 0)
      (by funext e; match e with | ⟨0, _⟩ => rfl | ⟨1, _⟩ => rfl) b'.val
      (by rw [h0, toInt_small _ (by omega)]) (by have := b'.isLt; show b'.val ≤ 512 - 1; omega)
  · rw [GatherDims.batchCoord_eq_zero _ _ _ (by decide), GatherDims.offCoord_eq_zero _ _ _ (by decide)]
    exact start_at gather_S512x64_S512x2_S512_n_01_n_n_01_1_11 idx _ 1 (by decide) (ix2 b 1)
      (by funext e; match e with | ⟨0, _⟩ => rfl | ⟨1, _⟩ => rfl) c.val
      (by rw [h1, toInt_small _ (by omega)]) (by have := c.isLt; show c.val ≤ 64 - 1; omega)

end

/-! ### Sums and maxima over the nodes of a graph -/

theorem node_surj (n : Fin 65536) : ∃ (b : Fin 512) (j : Fin 128), n = node b j :=
  ⟨⟨n.val / 128, by omega⟩, ⟨n.val % 128, by omega⟩, by ext; simp only [node]; omega⟩

theorem node_inj (b : Fin 512) : Function.Injective (node b) := fun j j' h => by
  have := congrArg Fin.val h
  simp only [node] at this
  exact Fin.ext (by omega)

/-- The nodes marked with graph `b` are its own. -/
theorem marked (seg : Fin 65536 → BitVec 32) (hs : ∀ b j, seg (node b j) = BitVec.ofNat 32 b.val) (n : Fin 65536) (b : Fin 512) :
    seg n = BitVec.ofNat 32 b.val ↔ ∃ j, node b j = n := by
  obtain ⟨b', j', rfl⟩ := node_surj n
  rw [hs, ofNat_inj _ _ (by omega) (by omega)]
  constructor
  · intro h
    obtain rfl : b' = b := Fin.ext h
    exact ⟨j', rfl⟩
  · rintro ⟨j, h⟩
    have := congrArg Fin.val h
    simp only [node] at this
    omega

/-- The start of an update on an axis of the scattered ones. -/
theorem scatter_start {w : ℕ} {s si u : Shape} (d : ScatterDims s si u) (idx : IVec si w) (j : u.Idx) (a : Fin s.rank)
    (ha : a ∈ d.scatterDimsToOperandDims) (q : si.Idx)
    (hq : d.siIdx j ⟨d.scatterDimsToOperandDims.idxOf a, List.idxOf_lt_length_iff.2 ha⟩ = q) :
    d.start j idx a = (idx q).toInt := by
  unfold ScatterDims.start
  rw [dif_pos ha, hq]

/-- The nodes that add to graph `b`. -/
theorem lands (idx : IVec S65536x1 32) (hs : ∀ b j, idx (ix2 (node b j) 0) = BitVec.ofNat 32 b.val) (n : Fin 65536) (b : Fin 512) :
    (idx (ix2 n 0)).toInt = (b.val : ℤ) ↔ ∃ j, node b j = n := by
  rw [← marked (fun n => idx (ix2 n 0)) hs n b]
  obtain ⟨b', j', rfl⟩ := node_surj n
  rw [hs, toInt_small _ (by omega), ofNat_inj _ _ (by omega) (by omega)]
  omega

/-- A scattered sum over the marks. -/
theorem sumVec (z : FVec Ideal S512 .f32) (idx : IVec S65536x1 32) (u : FVec Ideal S65536 .f32)
    (hs : ∀ b j, idx (ix2 (node b j) 0) = BitVec.ofNat 32 b.val) (b : Fin 512) :
    Host.scatterAdd scatter_S512_S65536x1_S65536_n_0_0_1 z idx u (ix1 b) = z (ix1 b) + ∑ j, u (ix1 (node b j)) := by
  show Ideal.hostScatterAdd _ _ _ _ _ = _
  unfold Ideal.hostScatterAdd
  refine congrArg (_ + ·) ?_
  refine Finset.sum_filter_eq_sum_of_fiber _ (fun j => ix1 (node b j)) (fun j j' h => node_inj b (congrFun h 0)) (fun i => ?_) u
  idx_vars i
  refine (Routing.resultIdx?_ix1 scatter_S512_S65536x1_S65536_n_0_0_1 (ix1 i0) idx b).trans ?_
  have e := scatter_start scatter_S512_S65536x1_S65536_n_0_0_1 idx (ix1 i0) 0 (by decide) (ix2 i0 0)
    (by funext e; match e with | ⟨0, _⟩ => rfl | ⟨1, _⟩ => rfl)
  have e' : ScatterDims.window scatter_S512_S65536x1_S65536_n_0_0_1 (ix1 i0) 0 = 0 := by
    unfold ScatterDims.window
    rw [dif_neg (by decide)]
  rw [e, e', Nat.cast_zero, add_zero, lands idx hs]
  constructor
  · rintro ⟨j, rfl⟩; exact ⟨j, rfl⟩
  · rintro ⟨j, h⟩; exact ⟨j, congrFun h 0⟩

/-- A scattered sum of rows over the marks. -/
theorem sumRows (z : FVec Ideal S512x64 .f32) (idx : IVec S65536x1 32) (u : FVec Ideal S65536x64 .f32)
    (hs : ∀ b j, idx (ix2 (node b j) 0) = BitVec.ofNat 32 b.val) (b : Fin 512) (c : Fin 64) :
    Host.scatterAdd scatter_S512x64_S65536x1_S65536x64_1_0_0_1 z idx u (ix2 b c) = z (ix2 b c) + ∑ j, u (ix2 (node b j) c) := by
  show Ideal.hostScatterAdd _ _ _ _ _ = _
  unfold Ideal.hostScatterAdd
  refine congrArg (_ + ·) ?_
  refine Finset.sum_filter_eq_sum_of_fiber _ (fun j => ix2 (node b j) c) (fun j j' h => node_inj b (congrFun h 0)) (fun i => ?_) u
  idx_vars i
  refine (Routing.resultIdx?_ix2 scatter_S512x64_S65536x1_S65536x64_1_0_0_1 (ix2 i0 i1) idx b c).trans ?_
  have e := scatter_start scatter_S512x64_S65536x1_S65536x64_1_0_0_1 idx (ix2 i0 i1) 0 (by decide) (ix2 i0 0)
    (by funext e; match e with | ⟨0, _⟩ => rfl | ⟨1, _⟩ => rfl)
  have e' : ScatterDims.window scatter_S512x64_S65536x1_S65536x64_1_0_0_1 (ix2 i0 i1) 0 = 0 := by
    unfold ScatterDims.window
    rw [dif_neg (by decide)]
  have f : ScatterDims.start scatter_S512x64_S65536x1_S65536x64_1_0_0_1 (ix2 i0 i1) idx 1 = 0 := by
    unfold ScatterDims.start
    rw [dif_neg (by decide)]
  have f' : ScatterDims.window scatter_S512x64_S65536x1_S65536x64_1_0_0_1 (ix2 i0 i1) 1 = i1.val := rfl
  rw [e, e', f, f', Nat.cast_zero, add_zero, zero_add, lands idx hs]
  constructor
  · rintro ⟨⟨j, rfl⟩, h⟩
    obtain rfl : i1 = c := Fin.ext (by exact_mod_cast h)
    exact ⟨j, rfl⟩
  · rintro ⟨j, h⟩
    refine ⟨⟨j, congrFun h 0⟩, ?_⟩
    rw [show i1 = c from (congrFun h 1).symm]

/-- The maximum over all nodes, those of other graphs at `−∞`, is the maximum over the nodes of the graph. -/
theorem maxMarked (seg : Fin 65536 → BitVec 32) (hs : ∀ b j, seg (node b j) = BitVec.ofNat 32 b.val) (f : Fin 65536 → EReal)
    (b : Fin 512) :
    Finset.univ.fold max ninf (fun n => if seg n = BitVec.ofNat 32 b.val then f n else ninf)
      = top fun j => f (node b j) := by
  unfold top
  rw [Numbers.ninf_eq]
  apply le_antisymm
  · rw [Finset.fold_max_le]
    refine ⟨bot_le, fun n _ => ?_⟩
    split
    · next h =>
      obtain ⟨j, rfl⟩ := (marked seg hs n b).mp h
      exact (Finset.le_fold_max _).mpr (Or.inr ⟨j, Finset.mem_univ _, le_rfl⟩)
    · exact bot_le
  · rw [Finset.fold_max_le]
    refine ⟨bot_le, fun j _ => (Finset.le_fold_max _).mpr (Or.inr ⟨node b j, Finset.mem_univ _, ?_⟩)⟩
    rw [if_pos (hs b j)]

end Cert.Moves

end
-- ==== Proof.RefActions.lean ====
/-
  The reference up to the probabilities of the actions, graph by graph.
-/
module

public import proofs.«01_k».proof.Proof.Moves
public import proofs.«01_k».proof.Proof.Numbers

@[expose] public section

set_option maxRecDepth 16384

noncomputable section

namespace Cert.RefActions

open Idealize.ShloMosaic Cert.ReferenceIdeal Cert.ReferenceIdeal.Gen Cert.ReferenceIdeal.Read Cert.Head Cert.Moves

variable (A : Args)

/-! ### The linear heads -/

theorem nl (n : Fin 65536) : val_main_v4 (F := Ideal) A.h A.w (ix1 n) = A.nl n := by
  unfold Args.nl Args.x
  pointwise [val_main_v4]

theorem agn (n : Fin 65536) (c : Fin 64) : val_main_v8 (F := Ideal) A.h A.Wagn A.bagn (ix2 n c) = A.agn n c := by
  unfold Args.agn Args.x lin
  pointwise [val_main_v8, val_main_v5, val_main_v7, val_main_v6]

theorem nga (n : Fin 65536) (c : Fin 64) : val_main_v12 (F := Ideal) A.h A.Wnga A.bnga (ix2 n c) = A.nga c n := by
  unfold Args.nga Args.x lin
  pointwise [val_main_v12, val_main_v9, val_main_v11, val_main_v10]

theorem qna (n : Fin 65536) (c : Fin 64) : val_main_v171 (F := Ideal) A.h A.Wqna A.bqna (ix2 n c) = A.qna c n := by
  unfold Args.qna Args.x lin
  pointwise [val_main_v171, val_main_v168, val_main_v170, val_main_v169]

theorem qan (n : Fin 65536) (c : Fin 64) : val_main_v175 (F := Ideal) A.h A.Wqan A.bqan (ix2 n c) = A.qan n c := by
  unfold Args.qan Args.x lin
  pointwise [val_main_v175, val_main_v172, val_main_v174, val_main_v173]

/-- A choice by an equality of words. -/
theorem pickEq {α : Type} {w : ℕ} (x y : BitVec w) (u v : α) :
    Scalar.select (IntOp.cmpi .eq x y) u v = if x = y then u else v := by
  by_cases h : x = y
  · subst h; simp [Scalar.select, IntOp.cmpi]
  · rw [if_neg h]
    have : (x == y) = false := by simpa using h
    simp [Scalar.select, IntOp.cmpi, this]

variable {a0 : Fin 512 → Fin 64} {a1 : Fin 512 → Fin 128} (ok : A.Ok a0 a1) (b : Fin 512) (j : Fin 128)
include ok

/-! ### The marks of the nodes as indices -/

theorem mark : val_main_v18 (F := Ideal) A.seg (ix2 (node b j) 0) = BitVec.ofNat 32 b.val := by
  pointwise [val_main_v18, val_main_v17, val_main_v16, val_main_v15, val_main_v14, val_main_v13, val_main_c, val_main_c_0]
  rw [ok.seg, wrap _ (by omega)]

theorem markRaw : val_main_v41 (F := Ideal) A.seg (ix2 (node b j) 0) = BitVec.ofNat 32 b.val := by
  pointwise [val_main_v41]
  rw [ok.seg]

/-! ### The softmax over the nodes of a graph -/

/-- Per graph, the maximum of `f` over its nodes: a maximum over all nodes in which the others stand at `−∞`. -/
def segMax (seg : IVec S65536 32) (f : FVec Ideal S65536 .f32) : FVec Ideal S512 .f32 :=
  Host.reduce FloatOps.maximumf (select (val_main_v27 (F := Ideal) seg)
    (broadcastInDim S512x65536 ![0, 1] bcast_S1x65536_S512x65536_0_1 (broadcastInDim S1x65536 ![1] bcast_S65536_S1x65536_1 f))
    (val_main_call0_v2 (F := Ideal))) (val_main_cst_2 (F := Ideal)) reducesTo_S512x65536_S512_d1 h_S_

/-- Per node, the exponential of `f` below that maximum. -/
def segExp (seg : IVec S65536 32) (f : FVec Ideal S65536 .f32) : FVec Ideal S65536 .f32 :=
  Host.exp (subf f (Host.gather gather_S512_S65536x1_S65536_n_0_n_n_0_1_1 (segMax seg f) (val_main_v36 (F := Ideal) seg)))

/-- Per node, its share of the sum of these over its graph. -/
def segSoft (seg : IVec S65536 32) (f : FVec Ideal S65536 .f32) : FVec Ideal S65536 .f32 :=
  Host.divf (segExp seg f) (addf (Host.gather gather_S512_S65536x1_S65536_n_0_n_n_0_1_1
    (Host.scatterAdd scatter_S512_S65536x1_S65536_n_0_0_1 (val_main_v40 (F := Ideal)) (val_main_v41 (F := Ideal) seg) (segExp seg f))
    (val_main_v48 (F := Ideal) seg)) (val_main_v50 (F := Ideal)))

theorem segMax_eq (f : FVec Ideal S65536 .f32) : segMax A.seg f (ix1 b) = top fun j => f (ix1 (node b j)) := by
  unfold segMax
  pointwise [val_main_v27, val_main_v26, val_main_v25, val_main_v24, val_main_v23, val_main_v22, val_main_call0_v2,
    val_main_call0_v0, val_main_cst, val_main_cst_2]
  refine Eq.trans ?_ (maxMarked (fun n => A.seg (ix1 n)) ok.seg (fun n => f (ix1 n)) b)
  refine congrArg (fun g => Finset.fold max _ g Finset.univ) (funext fun n => ?_)
  exact pickEq _ _ _ _

theorem segExp_eq (f : FVec Ideal S65536 .f32) :
    segExp A.seg f (ix1 (node b j)) = ex (fun j => f (ix1 (node b j))) j := by
  have h := perGraph (segMax A.seg f) (val_main_v36 (F := Ideal) A.seg) (node b j) b (mark A ok b j)
  rw [segMax_eq A ok] at h
  unfold segExp ex
  pointwise
  rw [h]

theorem segSoft_eq (f : FVec Ideal S65536 .f32) :
    segSoft A.seg f (ix1 (node b j)) = softNode (fun j => f (ix1 (node b j))) j := by
  have h := perGraph (Host.scatterAdd scatter_S512_S65536x1_S65536_n_0_0_1 (val_main_v40 (F := Ideal)) (val_main_v41 (F := Ideal) A.seg)
    (segExp A.seg f)) (val_main_v48 (F := Ideal) A.seg) (node b j) b (mark A ok b j)
  rw [sumVec _ _ _ (markRaw A ok)] at h
  simp only [segExp_eq A ok] at h
  unfold segSoft softNode
  pointwise
  rw [h, segExp_eq A ok]
  pointwise [val_main_v40, val_main_cst_5, val_main_v50, val_main_cst_8]
  rfl

theorem softNl : val_main_v52 (F := Ideal) A.h A.seg A.w (ix1 (node b j)) = softNode (fun j => A.nl (node b j)) j := by
  have h := segSoft_eq A ok b j (val_main_v4 (F := Ideal) A.h A.w)
  simp only [nl] at h
  exact h

/-! ### The softmax over the admitted actions of a node -/

theorem mask (c : Fin 64) : val_main_v19 (F := Ideal) A.seg A.mask (ix2 (node b j) c) = A.may b c :=
  rows _ _ _ _ _ (mark A ok b j)

theorem maskedAgn (c : Fin 64) : val_main_v53 (F := Ideal) A.h A.seg A.mask A.Wagn A.bagn (ix2 (node b j) c)
    = masked (A.may b) (A.agn (node b j)) c := by
  pointwise [val_main_v53, val_main_call1_v1, val_main_call1_v0, val_main_cst_9]
  rw [mask A ok, agn]
  rfl

omit ok in
theorem softRow (n : Fin 65536) (c : Fin 64) (f : Fin 64 → EReal)
    (h : ∀ c, val_main_v53 (F := Ideal) A.h A.seg A.mask A.Wagn A.bagn (ix2 n c) = f c) :
    val_main_v64 (F := Ideal) A.h A.seg A.mask A.Wagn A.bagn (ix2 n c) = softAct f c := by
  have m : val_main_v54 (F := Ideal) A.h A.seg A.mask A.Wagn A.bagn (ix1 n) = top f := by
    unfold val_main_v54
    generalize val_main_v53 (F := Ideal) A.h A.seg A.mask A.Wagn A.bagn = u at h ⊢
    pointwise [val_main_cst_10]
    simp only [h]
    rfl
  have e : ∀ c, val_main_v60 (F := Ideal) A.h A.seg A.mask A.Wagn A.bagn (ix2 n c) = ex f c := by
    intro c
    have m' : val_main_v56 (F := Ideal) A.h A.seg A.mask A.Wagn A.bagn (ix1 n) = top f := by
      rw [val_main_v56_apply, m, val_main_v55_apply]
      show max ninf _ = _
      rw [Cert.Numbers.ninf_eq, max_eq_right bot_le]
    have m2 : val_main_v58 (F := Ideal) A.h A.seg A.mask A.Wagn A.bagn (ix2 n c) = top f := by
      unfold val_main_v58 val_main_v57
      generalize val_main_v56 (F := Ideal) A.h A.seg A.mask A.Wagn A.bagn = t at m' ⊢
      clear h m
      pointwise
      exact m'
    rw [val_main_v60_apply, val_main_v59_apply, h, m2]
    rfl
  pointwise [val_main_v64, val_main_v63, val_main_v62, val_main_v61, val_main_cst_12]
  simp only [e]
  rfl

theorem softAgn (c : Fin 64) : val_main_v64 (F := Ideal) A.h A.seg A.mask A.Wagn A.bagn (ix2 (node b j) c)
    = softAct (masked (A.may b) (A.agn (node b j))) c :=
  softRow A _ _ _ (maskedAgn A ok b j)

/-! ### The probabilities of the actions -/

theorem raw (c : Fin 64) : val_main_v71 (F := Ideal) A.h A.seg A.mask A.w A.Wagn A.bagn (ix2 b c)
    = actRaw (A.may b) (fun j => A.nl (node b j)) (fun j => A.agn (node b j)) c := by
  have h := sumRows (val_main_v68 (F := Ideal)) (val_main_v69 (F := Ideal) A.seg)
    (val_main_v67 (F := Ideal) A.h A.seg A.mask A.w A.Wagn A.bagn) (markRaw A ok) b c
  have e : ∀ j, val_main_v67 (F := Ideal) A.h A.seg A.mask A.w A.Wagn A.bagn (ix2 (node b j) c)
      = softNode (fun j => A.nl (node b j)) j * softAct (masked (A.may b) (A.agn (node b j))) c := by
    intro j
    pointwise [val_main_v67, val_main_v66, val_main_v65]
    rw [softNl A ok, softAgn A ok]
  simp only [e] at h
  unfold actRaw
  pointwise [val_main_v71, val_main_call2_v1, val_main_call2_v0, val_main_cst_14]
  rw [show val_main_v70 (F := Ideal) A.h A.seg A.mask A.w A.Wagn A.bagn (ix2 b c) = _ from h]
  have z : val_main_v68 (F := Ideal) (ix2 b c) = 0 := by pointwise [val_main_v68, val_main_cst_13]
  rw [z, zero_add]
  refine ite_congr rfl (fun _ => rfl) fun _ => ?_
  exact Ideal.ofBits_zero FTy.f32

theorem pa (c : Fin 64) : val_main_v77 (F := Ideal) A.h A.seg A.mask A.w A.Wagn A.bagn (ix2 b c) = A.pa b c := by
  unfold Args.pa act
  pointwise [val_main_v77, val_main_v76, val_main_v75, val_main_v74, val_main_v73, val_main_v72, val_main_cst_15, val_main_cst_16]
  simp only [raw A ok]
  rfl

end Cert.RefActions

end
-- ==== Proof.RefNodes.lean ====
/-
  The reference's readings at the chosen action: the head picked at each node, the softmax over it, the chosen node.
-/
module

public import proofs.«01_k».proof.Proof.RefActions
public import Idealize.ShloMosaic.Lib.ReduceAll

@[expose] public section

set_option maxRecDepth 16384

noncomputable section

namespace Cert.RefNodes

open Idealize.ShloMosaic Cert.ReferenceIdeal Cert.ReferenceIdeal.Gen Cert.ReferenceIdeal.Read Cert.Head Cert.Moves Cert.RefActions

variable (A : Args) {a0 : Fin 512 → Fin 64} {a1 : Fin 512 → Fin 128} (ok : A.Ok a0 a1) (b : Fin 512) (j : Fin 128)
include ok

/-! ### The chosen action of a graph, at each of its nodes -/

theorem action : val_main_v1 (F := Ideal) A.a (ix1 b) = BitVec.ofNat 32 (a0 b).val := by
  rw [← ok.act]
  pointwise [val_main_v1, val_main_v0]

theorem actionAt : val_main_v84 (F := Ideal) A.a A.seg (ix1 (node b j)) = BitVec.ofNat 32 (a0 b).val :=
  (perGraph _ _ _ b (mark A ok b j)).trans (action A ok b)

theorem actionIdx : val_main_call3_v5 (F := Ideal) A.a A.seg (ix3 (node b j) 0 0) = BitVec.ofNat 32 (a0 b).val := by
  have h := actionAt A ok b j
  have e : val_main_v85 (F := Ideal) A.a A.seg (ix2 (node b j) 0) = BitVec.ofNat 32 (a0 b).val := by
    pointwise [val_main_v85]
    exact h
  have k : val_main_call3_v4 (F := Ideal) A.a A.seg (ix2 (node b j) 0) = BitVec.ofNat 32 (a0 b).val := by
    rw [val_main_call3_v4_apply, val_main_call3_v1_apply, e]
    exact wrap _ (by omega) _
  unfold val_main_call3_v5
  generalize val_main_call3_v4 (F := Ideal) A.a A.seg = u at k ⊢
  pointwise
  exact k

theorem inRange (i : S65536x1x1.Idx) : val_main_call3_v11 (F := Ideal) A.a A.seg i = 1#1 := by
  obtain ⟨b, j, h⟩ := node_surj (i 0)
  obtain rfl : i = ix3 (node b j) 0 0 := by
    funext e
    match e with
    | ⟨0, _⟩ => exact h
    | ⟨1, _⟩ => exact Subsingleton.elim (α := Fin 1) _ _
    | ⟨2, _⟩ => exact Subsingleton.elim (α := Fin 1) _ _
  rw [val_main_call3_v11_apply, val_main_call3_v7_apply, val_main_call3_v10_apply, actionIdx A ok]
  show IntOp.andi (IntOp.cmpi .sge (BitVec.ofNat 32 (a0 b).val) 0#32) (IntOp.cmpi .sle (BitVec.ofNat 32 (a0 b).val) 63#32) = 1#1
  generalize a0 b = c
  revert c
  decide

/-- The head picked along the actions is the head at the graph's own action. -/
theorem picked (x : FVec Ideal S65536x64 .f32) :
    shapeCast S65536 (select (val_main_call3_v12 (F := Ideal) A.a A.seg) (Host.gather gather_S65536x64_S65536x1x1_S65536x1_n_1_0_0_1_2_11 x
      (val_main_call3_v5 (F := Ideal) A.a A.seg)) (val_main_call3_v14 (F := Ideal))) shapeCasts_S65536x1_S65536 (ix1 (node b j))
    = x (ix2 (node b j) (a0 b)) := by
  have g := along x _ _ _ (actionIdx A ok b j)
  have v : val_main_call3_v12 (F := Ideal) A.a A.seg (ix2 (node b j) 0) = 1#1 :=
    Host.reduce_andi_one _ _ _ _ _ rfl (inRange A ok)
  generalize Host.gather gather_S65536x64_S65536x1x1_S65536x1_n_1_0_0_1_2_11 x (val_main_call3_v5 (F := Ideal) A.a A.seg) = y at g ⊢
  generalize val_main_call3_v12 (F := Ideal) A.a A.seg = z at v ⊢
  pointwise
  rw [v, g]
  rfl

theorem ngaAt : val_main_v87 (F := Ideal) A.a A.h A.seg A.Wnga A.bnga (ix1 (node b j)) = A.nga (a0 b) (node b j) :=
  (picked A ok b j (val_main_v12 (F := Ideal) A.h A.Wnga A.bnga)).trans (nga A _ _)

theorem qnaAt : val_main_v185 (F := Ideal) A.a A.h A.seg A.Wqna A.bqna (ix1 (node b j)) = A.qna (a0 b) (node b j) :=
  (picked A ok b j (val_main_v171 (F := Ideal) A.h A.Wqna A.bqna)).trans (qna A _ _)

/-- The probability of a node given the chosen action. -/
theorem pn : val_main_v118 (F := Ideal) A.a A.h A.seg A.Wnga A.bnga (ix1 (node b j)) = A.pn b (a0 b) j := by
  have h := segSoft_eq A ok b j (val_main_v87 (F := Ideal) A.a A.h A.seg A.Wnga A.bnga)
  simp only [ngaAt A ok] at h
  exact h

/-! ### The probability of the chosen action, and of the chosen node -/

omit ok in
theorem graphIdx : val_main_v132 (F := Ideal) A.a (ix2 b 0) = BitVec.ofNat 32 b.val := by
  refine (concatenate_pair_apply_left (t := S512x2) (s₁ := S512x1) (s₂ := S512x1) 1 _ _ _ (ix2 b 0) rfl (ix2 b (0 : Fin 1)) fun e => by
    match e with | ⟨0, _⟩ => rfl | ⟨1, _⟩ => rfl).trans ?_
  pointwise [val_main_v130, val_main_v124, val_main_v121, val_main_v120, val_main_v119, val_main_c_27]
  exact wrap _ (by omega) _

theorem actIdx : val_main_v132 (F := Ideal) A.a (ix2 b 1) = BitVec.ofNat 32 (a0 b).val := by
  have h := action A ok b
  refine (concatenate_pair_apply_right (t := S512x2) (s₁ := S512x1) (s₂ := S512x1) 1 _ _ _ (ix2 b 1) rfl rfl (ix2 b (0 : Fin 1))
    (fun e he => by match e with | ⟨0, _⟩ => rfl | ⟨1, _⟩ => exact absurd rfl he) rfl).trans ?_
  pointwise [val_main_v131, val_main_v129, val_main_v126, val_main_v125, val_main_c_29]
  rw [h]
  exact wrap _ (by omega) _

theorem paChosen : val_main_v133 (F := Ideal) A.a A.h A.seg A.mask A.w A.Wagn A.bagn (ix1 b) = A.pa b (a0 b) :=
  (pairs _ _ b b (a0 b) (graphIdx A b) (actIdx A ok b)).trans (pa A ok b _)

theorem nodeIdx : val_main_v142 (F := Ideal) A.a (ix2 b 0) = BitVec.ofNat 32 (node b (a1 b)).val := by
  have h : val_main_v3 (F := Ideal) A.a (ix1 b) = BitVec.ofNat 32 (node b (a1 b)).val := by
    rw [← ok.node]
    pointwise [val_main_v3, val_main_v2]
  pointwise [val_main_v142, val_main_v141, val_main_v138, val_main_v137, val_main_c_32]
  rw [h]
  exact wrap _ (by omega) _

theorem pnChosen : val_main_v143 (F := Ideal) A.a A.h A.seg A.Wnga A.bnga (ix1 b) = A.pn b (a0 b) (a1 b) :=
  (perNode _ _ b _ (nodeIdx A ok b)).trans (pn A ok b _)

end Cert.RefNodes

end
-- ==== Proof.RefResults.lean ====
/-
  The three results of the reference, in the terms of `Cert.Head`.
-/
module

public import proofs.«01_k».proof.Proof.RefNodes

@[expose] public section

set_option maxRecDepth 16384

noncomputable section

namespace Cert.RefResults

open Idealize.ShloMosaic Cert.ReferenceIdeal Cert.ReferenceIdeal.Gen Cert.ReferenceIdeal.Read Cert.Head Cert.Moves Cert.RefActions
  Cert.RefNodes

variable (A : Args) {a0 : Fin 512 → Fin 64} {a1 : Fin 512 → Fin 128} (ok : A.Ok a0 a1) (b : Fin 512) (j : Fin 128)
include ok

/-! ### Where the node counts -/

omit ok in
/-- A choice by a truth value. -/
theorem pick {α : Type} (t : BitVec 1) (p : Prop) [Decidable p] (h : t = 1#1 ↔ p) (u v : α) :
    Scalar.select t u v = if p then u else v := by
  by_cases hp : p
  · rw [if_pos hp, h.mpr hp]; rfl
  · rw [if_neg hp]
    have : t ≠ 1#1 := fun e => hp (h.mp e)
    simp [Scalar.select, this]

theorem pastFirst : val_main_v148 (F := Ideal) A.a (ix1 b) = 1#1 ↔ 0 < (a0 b).val := by
  rw [val_main_v148_apply, action A ok]
  show IntOp.cmpi .sgt (BitVec.ofNat 32 (a0 b).val) 0#32 = 1#1 ↔ _
  generalize a0 b = c
  revert c
  decide

omit ok in
/-- A list's disjunction holds where one of its members does. -/
theorem foldl_ori {ι : Type} (f : ι → BitVec 1) (l : List ι) (i : BitVec 1) :
    l.foldl (fun r n => IntOp.ori r (f n)) i = 1#1 ↔ i = 1#1 ∨ ∃ n ∈ l, f n = 1#1 := by
  induction l generalizing i with
  | nil => simp
  | cons a l ih =>
    rw [List.foldl_cons, ih]
    have : IntOp.ori i (f a) = 1#1 ↔ i = 1#1 ∨ f a = 1#1 := by
      generalize f a = y
      revert i y
      decide
    simp [this, or_assoc]

omit ok in
theorem someOther : val_main_v21 (F := Ideal) A.mask (ix1 b) = 1#1 ↔ NodesMatter (A.may b) := by
  have e : ∀ c, val_main_v20 (F := Ideal) A.mask (ix2 b c) = A.may b ⟨1 + c.val, by omega⟩ := by
    intro c
    unfold Args.may
    pointwise [val_main_v20]
  unfold val_main_v21 NodesMatter
  rw [Host.reduce_eq_foldl, foldl_ori]
  simp only [List.mem_filter, List.mem_map, List.mem_finRange, true_and, exists_exists_eq_and]
  have d : ∀ (g : Fin 512) (c : Fin 63), reducesTo_S512x63_S512_d1.drop (ix2 g c) = ix1 g := fun g c => by
    funext e
    match e with
    | ⟨0, _⟩ => rfl
  constructor
  · rintro (h | ⟨i, ⟨_, hi⟩, h⟩)
    · exact absurd h (by decide)
    · idx_vars i
      rw [d, decide_eq_true_eq] at hi
      obtain rfl : i0 = b := congrFun hi 0
      exact ⟨i1, (e i1).symm.trans h⟩
  · rintro ⟨c, h⟩
    exact Or.inr ⟨ix2 b c, ⟨⟨S512x63.rowMajor (ix2 b c), Equiv.symm_apply_apply _ _⟩, decide_eq_true (d b c)⟩, (e c).trans h⟩

/-! ### The first result: the log-probability of the choice -/

theorem result0 : val_main_v150 (F := Ideal) A.a A.h A.seg A.mask A.w A.Wagn A.bagn A.Wnga A.bnga (ix1 b) = A.logprob b a0 a1 := by
  have e0 : val_main_v136 (F := Ideal) A.a A.h A.seg A.mask A.w A.Wagn A.bagn (ix1 b) = Ideal.log (A.pa b (a0 b) + eps) := by
    rw [val_main_v136_apply, val_main_v135_apply, paChosen A ok]
    rfl
  have e1 : val_main_v146 (F := Ideal) A.a A.h A.seg A.Wnga A.bnga (ix1 b) = Ideal.log (A.pn b (a0 b) (a1 b) + eps) := by
    rw [val_main_v146_apply, val_main_v145_apply, pnChosen A ok]
    rfl
  rw [val_main_v150_apply, e0, val_main_v149_apply, pick _ _ (pastFirst A ok b), e1]
  refine congrArg (HAdd.hAdd (α := EReal) _) ?_
  refine ite_congr rfl (fun _ => rfl) fun _ => ?_
  exact Ideal.ofBits_zero FTy.f32

/-! ### The second: the entropy -/

theorem entActs : val_main_v156 (F := Ideal) A.h A.seg A.mask A.w A.Wagn A.bagn (ix1 b) = ent (A.pa b) := by
  have e : ∀ c, val_main_v154 (F := Ideal) A.h A.seg A.mask A.w A.Wagn A.bagn (ix2 b c)
      = A.pa b c * Ideal.log (A.pa b c + eps) := by
    intro c
    rw [val_main_v154_apply, val_main_v153_apply, val_main_v152_apply, pa A ok]
    rfl
  pointwise [val_main_v156, val_main_v155, val_main_cst_38]
  simp only [e]
  rfl

theorem entNodes : val_main_v164 (F := Ideal) A.a A.h A.seg A.Wnga A.bnga (ix1 b) = ent (A.pn b (a0 b)) := by
  have e : ∀ j, val_main_v160 (F := Ideal) A.a A.h A.seg A.Wnga A.bnga (ix1 (node b j))
      = A.pn b (a0 b) j * Ideal.log (A.pn b (a0 b) j + eps) := by
    intro j
    rw [val_main_v160_apply, val_main_v159_apply, val_main_v158_apply, pn A ok]
    rfl
  have h := sumVec (val_main_v161 (F := Ideal)) (val_main_v162 (F := Ideal) A.seg)
    (val_main_v160 (F := Ideal) A.a A.h A.seg A.Wnga A.bnga) (markRaw A ok) b
  have z : val_main_v161 (F := Ideal) (ix1 b) = 0 := by pointwise [val_main_v161, val_main_cst_40]
  rw [z, zero_add] at h
  simp only [e] at h
  rw [val_main_v164_apply, show val_main_v163 (F := Ideal) A.a A.h A.seg A.Wnga A.bnga (ix1 b) = _ from h]
  rfl

theorem result1 : val_main_v167 (F := Ideal) A.a A.h A.seg A.mask A.w A.Wagn A.bagn A.Wnga A.bnga (ix1 b) = A.entropy b a0 := by
  classical
  have g : val_main_v165 (F := Ideal) A.a A.mask (ix1 b) = 1#1 ↔ NodesMatter (A.may b) ∧ 0 < (a0 b).val := by
    rw [val_main_v165_apply, IntOp.andi_eq_one, someOther, pastFirst A ok]
  rw [val_main_v167_apply, entActs A ok, val_main_v166_apply, pick _ _ g, entNodes A ok]
  unfold Args.entropy entropy
  refine congrArg (HAdd.hAdd (α := EReal) _) ?_
  refine ite_congr rfl (fun _ => rfl) fun _ => ?_
  exact Ideal.ofBits_zero FTy.f32

/-! ### The third: the value -/

theorem valueNodes : val_main_v189 (F := Ideal) A.a A.h A.seg A.Wnga A.bnga A.Wqna A.bqna (ix1 b)
    = ∑ j, A.qna (a0 b) (node b j) * A.pn b (a0 b) j := by
  have e : ∀ j, val_main_v186 (F := Ideal) A.a A.h A.seg A.Wnga A.bnga A.Wqna A.bqna (ix1 (node b j))
      = A.qna (a0 b) (node b j) * A.pn b (a0 b) j := by
    intro j
    rw [val_main_v186_apply, qnaAt A ok, pn A ok]
    rfl
  have h := sumVec (val_main_v187 (F := Ideal)) (val_main_v188 (F := Ideal) A.seg)
    (val_main_v186 (F := Ideal) A.a A.h A.seg A.Wnga A.bnga A.Wqna A.bqna) (markRaw A ok) b
  have z : val_main_v187 (F := Ideal) (ix1 b) = 0 := by pointwise [val_main_v187, val_main_cst_44]
  rw [z, zero_add] at h
  simp only [e] at h
  exact h

theorem valueActs : val_main_v194 (F := Ideal) A.h A.seg A.mask A.w A.Wagn A.bagn A.Wqan A.bqan (ix1 b)
    = ∑ c, (∑ j, A.qan (node b j) c) * A.pa b c := by
  have e : ∀ c, val_main_v193 (F := Ideal) A.h A.seg A.mask A.w A.Wagn A.bagn A.Wqan A.bqan (ix2 b c)
      = (∑ j, A.qan (node b j) c) * A.pa b c := by
    intro c
    have h := sumRows (val_main_v190 (F := Ideal)) (val_main_v191 (F := Ideal) A.seg)
      (val_main_v175 (F := Ideal) A.h A.Wqan A.bqan) (markRaw A ok) b c
    have z : val_main_v190 (F := Ideal) (ix2 b c) = 0 := by pointwise [val_main_v190, val_main_cst_45]
    rw [z, zero_add] at h
    simp only [qan] at h
    rw [val_main_v193_apply, show val_main_v192 (F := Ideal) A.h A.seg A.Wqan A.bqan (ix2 b c) = _ from h, pa A ok]
    rfl
  pointwise [val_main_v194, val_main_cst_46]
  simp only [e]

theorem result2 : val_main_v195 (F := Ideal) A.a A.h A.seg A.mask A.w A.Wagn A.bagn A.Wnga A.bnga A.Wqna A.bqna A.Wqan A.bqan (ix1 b)
    = A.value b a0 := by
  rw [val_main_v195_apply, valueNodes A ok, valueActs A ok]
  rfl

end Cert.RefResults

end
-- ==== Proof.Runs.lean ====
/-
  The two programs run, their results in the terms of `Cert.Head`.
-/
module

public import proofs.«01_k».proof.Proof.KernelValue
public import proofs.«01_k».proof.Proof.RefResults
public import proofs.«01_k».proof.Proof.Gen.ReferenceIdeal.Run
public import Idealize.ShloMosaic.Lib.Claim

@[expose] public section

noncomputable section

namespace Cert.Runs

open Idealize.ShloMosaic Idealize.ShloMosaic.TcCoe Idealize.SL.Sem Cert.Head

section Kernel

open Cert.KernelIdeal Cert.KernelIdeal.Gen

variable (m : (ℓ : Loc nD τ sig) → Buf (Elt Ideal) ℓ) (g : Dev nD → PrngReg)
variable (a0 : Dev nD → Fin 512 → Fin 64) (a1 : Dev nD → Fin 512 → Fin 128)

/-- The kernel leaves the three results of `Args`, and its arguments as they were. -/
theorem kernel (ok : ∀ c, (Blocks.args m c).Ok (a0 c) (a1 c)) :
    θ_run (defs (F := Ideal)) (onTc (τ := τ) (main (F := Ideal))) ⟨m, fun _ => 0, g⟩ (fun r => ∀ c : Dev nD,
      r.2.mem ((c.tc : Thread nD τ).loc main_v0_0) = (fun i : S512.Idx => (Blocks.args m c).logprob (i 0) (a0 c) (a1 c))
      ∧ r.2.mem ((c.tc : Thread nD τ).loc main_v0_1) = (fun i : S512.Idx => (Blocks.args m c).entropy (i 0) (a0 c))
      ∧ r.2.mem ((c.tc : Thread nD τ).loc main_v0_2) = (fun i : S512.Idx => (Blocks.args m c).value (i 0) (a0 c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    refine ⟨?_, ?_, ?_, h.2 c⟩
    · exact ((h.1 c).2 main_v0_0 (Pipeline.mem_restRefs_of main_v0_0 (by decide) (by decide))).trans (KernelValue.result0 m c (ok c))
    · exact ((h.1 c).2 main_v0_1 (Pipeline.mem_restRefs_of main_v0_1 (by decide) (by decide))).trans (KernelValue.result1 m c (ok c))
    · exact ((h.1 c).2 main_v0_2 (Pipeline.mem_restRefs_of main_v0_2 (by decide) (by decide))).trans (KernelValue.result2 m c (ok c)))
    (θ_run_and (run_main m g) (unchanged m g))

end Kernel

section Reference

open Cert.ReferenceIdeal Cert.ReferenceIdeal.Gen Cert.ReferenceIdeal.Read

variable (m : (ℓ : Loc nD τ sig) → Buf (Elt Ideal) ℓ) (g : Dev nD → PrngReg) (c : Dev nD)

/-- The arguments the reference is launched on. -/
def args : Args where
  a := m ((c : Thread nD τ).loc main_arg0)
  h := m ((c : Thread nD τ).loc main_arg1)
  seg := m ((c : Thread nD τ).loc main_arg2)
  mask := m ((c : Thread nD τ).loc main_arg3)
  w := m ((c : Thread nD τ).loc main_arg5)
  Wagn := m ((c : Thread nD τ).loc main_arg6)
  bagn := m ((c : Thread nD τ).loc main_arg7)
  Wnga := m ((c : Thread nD τ).loc main_arg8)
  bnga := m ((c : Thread nD τ).loc main_arg9)
  Wqna := m ((c : Thread nD τ).loc main_arg10)
  bqna := m ((c : Thread nD τ).loc main_arg11)
  Wqan := m ((c : Thread nD τ).loc main_arg12)
  bqan := m ((c : Thread nD τ).loc main_arg13)

/-- An array of one value per graph is known by its graphs. -/
theorem byGraph {x : FVec Ideal S512 .f32} {f : Fin 512 → EReal} (h : ∀ b, x (ix1 b) = f b) : x = fun i : S512.Idx => f (i 0) := by
  funext i
  idx_vars i
  exact h i0

variable (a0 : Dev nD → Fin 512 → Fin 64) (a1 : Dev nD → Fin 512 → Fin 128)

/-- The reference leaves the three results of `Args`, and its arguments as they were. -/
theorem reference (ok : ∀ c, (args m c).Ok (a0 c) (a1 c)) :
    θ_run (defs (F := Ideal)) (onTc (τ := τ) (main (F := Ideal))) ⟨m, fun _ => 0, g⟩ (fun r => ∀ c : Dev nD,
      r.2.mem ((c.tc : Thread nD τ).loc main_v150) = (fun i : S512.Idx => (args m c).logprob (i 0) (a0 c) (a1 c))
      ∧ r.2.mem ((c.tc : Thread nD τ).loc main_v167) = (fun i : S512.Idx => (args m c).entropy (i 0) (a0 c))
      ∧ r.2.mem ((c.tc : Thread nD τ).loc main_v195) = (fun i : S512.Idx => (args m c).value (i 0) (a0 c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain ⟨h0, h1, h2, hr⟩ := h c
    refine ⟨?_, ?_, ?_, hr⟩
    · exact h0.trans ((val_main_v150_eq (StableHlo.launchContents m c)).trans (byGraph (RefResults.result0 (args m c) (ok c))))
    · exact h1.trans ((val_main_v167_eq (StableHlo.launchContents m c)).trans (byGraph (RefResults.result1 (args m c) (ok c))))
    · exact h2.trans ((val_main_v195_eq (StableHlo.launchContents m c)).trans (byGraph (RefResults.result2 (args m c) (ok c)))))
    (Value.run (F := Ideal) m g)

end Reference

end Cert.Runs

end
-- ==== Proof.lean ====
/-
  The claims of the certificate, from the runs of the three programs.
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import proofs.«01_k».proof.Proof.Precondition
public import proofs.«01_k».proof.Proof.Runs
public import Idealize.ShloMosaic.Adequacy
public import Idealize.ShloMosaic.Init

@[expose] public section

noncomputable section

namespace Cert.Proof

open Idealize.ShloMosaic Idealize.ShloMosaic.TcCoe Idealize.SL.Sem

/-- The reference runs to its end, its arguments unchanged; it has no semaphore. -/
theorem frameReference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- On arguments the precondition admits, the kernel's three results are the reference's, in exact arithmetic. -/
theorem values : Cert.algebraic_KernelIdeal_ReferenceIdeal_pre_as_drawn := by
  intro m g m' g' pre agree
  have ok : ∀ c, ∃ a0 a1, (Blocks.args m c).Ok a0 a1 := fun c => Precondition.ok (Blocks.args m c) _ (pre c)
  choose a0 a1 ok using ok
  have same : ∀ c, Runs.args m' c = Blocks.args m c := by
    intro c
    obtain ⟨e0, e1, e2, e3, _, e5, e6, e7, e8, e9, e10, e11, e12, e13⟩ := agree c
    unfold Runs.args Blocks.args
    congr
  have run := Runs.reference m' g' a0 a1 fun c => (same c).symm ▸ ok c
  simp only [same] at run
  exact ⟨_, _, _, Runs.kernel m g a0 a1 ok, run⟩

theorem claim : Cert.Claim :=
  ⟨Cert.Kernel.Gen.facts, Cert.KernelIdeal.Gen.facts, Cert.ReferenceIdeal.Gen.facts, Precondition.facts,
    fun m ρ _ => Cert.Kernel.Gen.frame m ρ,
    fun m ρ _ => Cert.KernelIdeal.Gen.frame m ρ,
    fun m ρ _ => Cert.KernelIdeal.Gen.frame m ρ,
    frameReference,
    fun m ρ _ => frameReference m ρ trivial,
    trivial,
    values⟩

end Cert.Proof

end
